-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v107)) (v1 : (c : Dev Cert.KernelIdeal.nD) → Buf (Elt Ideal) ((c.tc : Thread Cert.KernelIdeal.nD Cert.KernelIdeal.τ).loc Cert.KernelIdeal.main_v284)) (v2 : (c : Dev Cert.KernelIdeal.nD) → Buf (Elt Ideal) ((c.tc : Thread Cert.KernelIdeal.nD Cert.KernelIdeal.τ).loc Cert.KernelIdeal.main_v276)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_v284) = v1 c
          ∧ r.2.mem ((c.tc : Thread Cert.KernelIdeal.nD Cert.KernelIdeal.τ).loc Cert.KernelIdeal.main_v276) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v287) = v1 c
          ∧ r.2.mem ((c.tc : Thread Cert.ReferenceIdeal.nD Cert.ReferenceIdeal.τ).loc Cert.ReferenceIdeal.main_v279) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x3 : Shape := ⟨2, ![10000, 3]⟩
abbrev S2x160000 : Shape := ⟨2, ![2, 160000]⟩
abbrev S10000x128 : Shape := ⟨2, ![10000, 128]⟩
abbrev S10000 : Shape := ⟨1, ![10000]⟩
abbrev S128x128 : Shape := ⟨2, ![128, 128]⟩
abbrev S128x128x256 : Shape := ⟨3, ![128, 128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S131x256 : Shape := ⟨2, ![131, 256]⟩
abbrev S256x3 : Shape := ⟨2, ![256, 3]⟩
abbrev S3 : Shape := ⟨1, ![3]⟩
abbrev S1x160000 : Shape := ⟨2, ![1, 160000]⟩
abbrev S160000 : Shape := ⟨1, ![160000]⟩
abbrev S_ : Shape := ⟨0, ![]⟩
abbrev S10000x1 : Shape := ⟨2, ![10000, 1]⟩
abbrev S16384x256 : Shape := ⟨2, ![16384, 256]⟩
abbrev S10000x256 : Shape := ⟨2, ![10000, 256]⟩
abbrev S1000x128 : Shape := ⟨2, ![1000, 128]⟩
abbrev S1000x256 : Shape := ⟨2, ![1000, 256]⟩
abbrev S1000x1 : Shape := ⟨2, ![1000, 1]⟩
abbrev S1000x1024 : Shape := ⟨2, ![1000, 1024]⟩
abbrev S1024x256 : Shape := ⟨2, ![1024, 256]⟩
abbrev S160000x1 : Shape := ⟨2, ![160000, 1]⟩
abbrev S160000x256 : Shape := ⟨2, ![160000, 256]⟩
abbrev S1x256 : Shape := ⟨2, ![1, 256]⟩
abbrev S1x128 : Shape := ⟨2, ![1, 128]⟩
abbrev S10000x131 : Shape := ⟨2, ![10000, 131]⟩
abbrev S160000x131 : Shape := ⟨2, ![160000, 131]⟩
abbrev S1x3 : Shape := ⟨2, ![1, 3]⟩

abbrev nBuf : Space → Nat
  | .hbm => 368
  | .vmem => 7
  | .smem => 0
  | _ => 0

abbrev hbmTy0_0 (i : Nat) : BufTy := match i % 128 with
  | 0 => ⟨S10000x3, .f32⟩
  | 1 => ⟨S2x160000, .i32⟩
  | 2 => ⟨S10000x128, .f32⟩
  | 3 => ⟨S10000, .i32⟩
  | 4 => ⟨S128x128, .f32⟩
  | 5 => ⟨S128x128x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x128, .f32⟩
  | 12 => ⟨S128, .f32⟩
  | 13 => ⟨S131x256, .f32⟩
  | 14 => ⟨S256, .f32⟩
  | 15 => ⟨S256x256, .f32⟩
  | 16 => ⟨S256, .f32⟩
  | 17 => ⟨S256x256, .f32⟩
  | 18 => ⟨S256, .f32⟩
  | 19 => ⟨S256x256, .f32⟩
  | 20 => ⟨S256, .f32⟩
  | 21 => ⟨S256x256, .f32⟩
  | 22 => ⟨S256, .f32⟩
  | 23 => ⟨S256x3, .f32⟩
  | 24 => ⟨S3, .f32⟩
  | 25 => ⟨S1x160000, .i32⟩
  | 26 => ⟨S160000, .i32⟩
  | 27 => ⟨S1x160000, .i32⟩
  | 28 => ⟨S160000, .i32⟩
  | 29 => ⟨S_, .i32⟩
  | 30 => ⟨S10000, .i32⟩
  | 31 => ⟨S10000, .i1⟩
  | 32 => ⟨S_, .i32⟩
  | 33 => ⟨S10000, .i32⟩
  | 34 => ⟨S10000, .i32⟩
  | 35 => ⟨S10000, .i32⟩
  | 36 => ⟨S10000x1, .i32⟩
  | 37 => ⟨S10000x128, .f32⟩
  | 38 => ⟨S16384x256, .f32⟩
  | 39 => ⟨S16384x256, .bf16⟩
  | 40 => ⟨S10000x256, .f32⟩
  | 41 => ⟨S_, .f32⟩
  | 42 => ⟨S10000x256, .f32⟩
  | 43 => ⟨S_, .i32⟩
  | 44 => ⟨S160000, .i32⟩
  | 45 => ⟨S160000, .i1⟩
  | 46 => ⟨S_, .i32⟩
  | 47 => ⟨S160000, .i32⟩
  | 48 => ⟨S160000, .i32⟩
  | 49 => ⟨S160000, .i32⟩
  | 50 => ⟨S160000x1, .i32⟩
  | 51 => ⟨S160000x256, .f32⟩
  | 52 => ⟨S_, .i32⟩
  | 53 => ⟨S160000, .i32⟩
  | 54 => ⟨S160000, .i1⟩
  | 55 => ⟨S_, .i32⟩
  | 56 => ⟨S160000, .i32⟩
  | 57 => ⟨S160000, .i32⟩
  | 58 => ⟨S160000, .i32⟩
  | 59 => ⟨S160000x1, .i32⟩
  | 60 => ⟨S10000x256, .f32⟩
  | 61 => ⟨S10000x256, .f32⟩
  | 62 => ⟨S_, .f32⟩
  | 63 => ⟨S10000x256, .f32⟩
  | 64 => ⟨S10000x256, .f32⟩
  | 65 => ⟨S10000x256, .f32⟩
  | 66 => ⟨S10000x256, .f32⟩
  | 67 => ⟨S10000x256, .i1⟩
  | 68 => ⟨S10000x256, .f32⟩
  | 69 => ⟨S10000x256, .f32⟩
  | 70 => ⟨S10000x256, .f32⟩
  | 71 => ⟨S10000x256, .f32⟩
  | 72 => ⟨S10000x256, .f32⟩
  | 73 => ⟨S10000x256, .f32⟩
  | 74 => ⟨S10000x256, .f32⟩
  | 75 => ⟨S10000x256, .f32⟩
  | 76 => ⟨S1x256, .f32⟩
  | 77 => ⟨S10000x256, .f32⟩
  | 78 => ⟨S10000x256, .f32⟩
  | 79 => ⟨S10000x256, .f32⟩
  | 80 => ⟨S1x256, .f32⟩
  | 81 => ⟨S10000x256, .f32⟩
  | 82 => ⟨S10000x256, .f32⟩
  | 83 => ⟨S_, .f32⟩
  | 84 => ⟨S10000x256, .f32⟩
  | 85 => ⟨S10000x256, .f32⟩
  | 86 => ⟨S10000x256, .f32⟩
  | 87 => ⟨S10000x256, .f32⟩
  | 88 => ⟨S10000x256, .i1⟩
  | 89 => ⟨S10000x256, .f32⟩
  | 90 => ⟨S10000x256, .f32⟩
  | 91 => ⟨S10000x256, .f32⟩
  | 92 => ⟨S10000x256, .f32⟩
  | 93 => ⟨S10000x256, .f32⟩
  | 94 => ⟨S10000x256, .f32⟩
  | 95 => ⟨S10000x256, .f32⟩
  | 96 => ⟨S10000x256, .f32⟩
  | 97 => ⟨S10000x256, .f32⟩
  | 98 => ⟨S1x256, .f32⟩
  | 99 => ⟨S10000x256, .f32⟩
  | 100 => ⟨S10000x256, .f32⟩
  | 101 => ⟨S_, .f32⟩
  | 102 => ⟨S10000x256, .f32⟩
  | 103 => ⟨S10000x256, .f32⟩
  | 104 => ⟨S10000x256, .f32⟩
  | 105 => ⟨S10000x256, .f32⟩
  | 106 => ⟨S10000x256, .i1⟩
  | 107 => ⟨S10000x256, .f32⟩
  | 108 => ⟨S10000x256, .f32⟩
  | 109 => ⟨S10000x256, .f32⟩
  | 110 => ⟨S10000x256, .f32⟩
  | 111 => ⟨S10000x256, .f32⟩
  | 112 => ⟨S10000x256, .f32⟩
  | 113 => ⟨S10000x256, .f32⟩
  | 114 => ⟨S10000x256, .f32⟩
  | 115 => ⟨S10000x128, .f32⟩
  | 116 => ⟨S1x128, .f32⟩
  | 117 => ⟨S10000x128, .f32⟩
  | 118 => ⟨S10000x128, .f32⟩
  | 119 => ⟨S_, .f32⟩
  | 120 => ⟨S10000x128, .f32⟩
  | 121 => ⟨S10000x128, .f32⟩
  | 122 => ⟨S10000x128, .f32⟩
  | 123 => ⟨S10000x128, .f32⟩
  | 124 => ⟨S10000x128, .i1⟩
  | 125 => ⟨S10000x128, .f32⟩
  | 126 => ⟨S10000x128, .f32⟩
  | 127 => ⟨S10000x128, .f32⟩
  | _ => ⟨S10000x3, .f32⟩

abbrev hbmTy0_1 (i : Nat) : BufTy := match i % 128 with
  | 0 => ⟨S10000x128, .f32⟩
  | 1 => ⟨S10000x128, .f32⟩
  | 2 => ⟨S10000x128, .f32⟩
  | 3 => ⟨S10000x128, .f32⟩
  | 4 => ⟨S10000x128, .f32⟩
  | 5 => ⟨S_, .f32⟩
  | 6 => ⟨S10000x128, .f32⟩
  | 7 => ⟨S10000x128, .f32⟩
  | 8 => ⟨S10000x128, .f32⟩
  | 9 => ⟨S10000x128, .f32⟩
  | 10 => ⟨S10000x128, .f32⟩
  | 11 => ⟨S10000x128, .f32⟩
  | 12 => ⟨S10000x128, .f32⟩
  | 13 => ⟨S10000x128, .f32⟩
  | 14 => ⟨S10000x128, .f32⟩
  | 15 => ⟨S_, .f32⟩
  | 16 => ⟨S_, .f32⟩
  | 17 => ⟨S_, .f32⟩
  | 18 => ⟨S_, .f32⟩
  | 19 => ⟨S_, .i32⟩
  | 20 => ⟨S10000, .i32⟩
  | 21 => ⟨S_, .i32⟩
  | 22 => ⟨S_, .i32⟩
  | 23 => ⟨S160000, .i32⟩
  | 24 => ⟨S160000, .i32⟩
  | 25 => ⟨S_, .i32⟩
  | 26 => ⟨S160000, .i32⟩
  | 27 => ⟨S160000, .i1⟩
  | 28 => ⟨S_, .i32⟩
  | 29 => ⟨S160000, .i32⟩
  | 30 => ⟨S160000, .i32⟩
  | 31 => ⟨S160000, .i32⟩
  | 32 => ⟨S160000x1, .i32⟩
  | 33 => ⟨S_, .i32⟩
  | 34 => ⟨S160000, .i32⟩
  | 35 => ⟨S10000, .i32⟩
  | 36 => ⟨S_, .i32⟩
  | 37 => ⟨S10000, .i32⟩
  | 38 => ⟨S10000, .i32⟩
  | 39 => ⟨S10000, .f32⟩
  | 40 => ⟨S_, .i32⟩
  | 41 => ⟨S10000, .i32⟩
  | 42 => ⟨S_, .i32⟩
  | 43 => ⟨S_, .i32⟩
  | 44 => ⟨S160000, .i32⟩
  | 45 => ⟨S160000, .i32⟩
  | 46 => ⟨S_, .i32⟩
  | 47 => ⟨S160000, .i32⟩
  | 48 => ⟨S160000, .i1⟩
  | 49 => ⟨S_, .i32⟩
  | 50 => ⟨S160000, .i32⟩
  | 51 => ⟨S160000, .i32⟩
  | 52 => ⟨S160000, .i32⟩
  | 53 => ⟨S160000x1, .i32⟩
  | 54 => ⟨S_, .i32⟩
  | 55 => ⟨S160000, .i32⟩
  | 56 => ⟨S10000, .i32⟩
  | 57 => ⟨S_, .i32⟩
  | 58 => ⟨S10000, .i32⟩
  | 59 => ⟨S10000, .i32⟩
  | 60 => ⟨S10000, .f32⟩
  | 61 => ⟨S10000, .f32⟩
  | 62 => ⟨S10000x1, .f32⟩
  | 63 => ⟨S10000, .f32⟩
  | 64 => ⟨S10000x1, .f32⟩
  | 65 => ⟨S10000x131, .f32⟩
  | 66 => ⟨S10000x131, .f32⟩
  | 67 => ⟨S10000x131, .f32⟩
  | 68 => ⟨S_, .f32⟩
  | 69 => ⟨S10000x131, .f32⟩
  | 70 => ⟨S_, .i32⟩
  | 71 => ⟨S160000, .i32⟩
  | 72 => ⟨S160000, .i1⟩
  | 73 => ⟨S_, .i32⟩
  | 74 => ⟨S160000, .i32⟩
  | 75 => ⟨S160000, .i32⟩
  | 76 => ⟨S160000, .i32⟩
  | 77 => ⟨S160000x1, .i32⟩
  | 78 => ⟨S160000x131, .f32⟩
  | 79 => ⟨S_, .i32⟩
  | 80 => ⟨S160000, .i32⟩
  | 81 => ⟨S160000, .i1⟩
  | 82 => ⟨S_, .i32⟩
  | 83 => ⟨S160000, .i32⟩
  | 84 => ⟨S160000, .i32⟩
  | 85 => ⟨S160000, .i32⟩
  | 86 => ⟨S160000x1, .i32⟩
  | 87 => ⟨S10000x131, .f32⟩
  | 88 => ⟨S10000x131, .f32⟩
  | 89 => ⟨S10000x131, .f32⟩
  | 90 => ⟨S10000x256, .f32⟩
  | 91 => ⟨S1x256, .f32⟩
  | 92 => ⟨S10000x256, .f32⟩
  | 93 => ⟨S10000x256, .f32⟩
  | 94 => ⟨S_, .f32⟩
  | 95 => ⟨S10000x256, .f32⟩
  | 96 => ⟨S10000x256, .f32⟩
  | 97 => ⟨S10000x256, .f32⟩
  | 98 => ⟨S10000x256, .f32⟩
  | 99 => ⟨S10000x256, .i1⟩
  | 100 => ⟨S10000x256, .f32⟩
  | 101 => ⟨S10000x256, .f32⟩
  | 102 => ⟨S10000x256, .f32⟩
  | 103 => ⟨S10000x256, .f32⟩
  | 104 => ⟨S10000x256, .f32⟩
  | 105 => ⟨S10000x256, .f32⟩
  | 106 => ⟨S10000x256, .f32⟩
  | 107 => ⟨S10000x256, .f32⟩
  | 108 => ⟨S10000x256, .f32⟩
  | 109 => ⟨S10000x256, .f32⟩
  | 110 => ⟨S_, .f32⟩
  | 111 => ⟨S10000x256, .f32⟩
  | 112 => ⟨S_, .i32⟩
  | 113 => ⟨S160000, .i32⟩
  | 114 => ⟨S160000, .i1⟩
  | 115 => ⟨S_, .i32⟩
  | 116 => ⟨S160000, .i32⟩
  | 117 => ⟨S160000, .i32⟩
  | 118 => ⟨S160000, .i32⟩
  | 119 => ⟨S160000x1, .i32⟩
  | 120 => ⟨S160000x256, .f32⟩
  | 121 => ⟨S_, .i32⟩
  | 122 => ⟨S160000, .i32⟩
  | 123 => ⟨S160000, .i1⟩
  | 124 => ⟨S_, .i32⟩
  | 125 => ⟨S160000, .i32⟩
  | 126 => ⟨S160000, .i32⟩
  | 127 => ⟨S160000, .i32⟩
  | _ => ⟨S10000x3, .f32⟩

abbrev hbmTy0_2 (i : Nat) : BufTy := match i % 128 with
  | 0 => ⟨S160000x1, .i32⟩
  | 1 => ⟨S10000x256, .f32⟩
  | 2 => ⟨S10000x256, .f32⟩
  | 3 => ⟨S10000x256, .f32⟩
  | 4 => ⟨S10000x256, .f32⟩
  | 5 => ⟨S1x256, .f32⟩
  | 6 => ⟨S10000x256, .f32⟩
  | 7 => ⟨S10000x256, .f32⟩
  | 8 => ⟨S_, .f32⟩
  | 9 => ⟨S10000x256, .f32⟩
  | 10 => ⟨S10000x256, .f32⟩
  | 11 => ⟨S10000x256, .f32⟩
  | 12 => ⟨S10000x256, .f32⟩
  | 13 => ⟨S10000x256, .i1⟩
  | 14 => ⟨S10000x256, .f32⟩
  | 15 => ⟨S10000x256, .f32⟩
  | 16 => ⟨S10000x256, .f32⟩
  | 17 => ⟨S10000x256, .f32⟩
  | 18 => ⟨S10000x256, .f32⟩
  | 19 => ⟨S10000x256, .f32⟩
  | 20 => ⟨S10000x256, .f32⟩
  | 21 => ⟨S10000x256, .f32⟩
  | 22 => ⟨S10000x256, .f32⟩
  | 23 => ⟨S10000x256, .f32⟩
  | 24 => ⟨S_, .f32⟩
  | 25 => ⟨S10000x256, .f32⟩
  | 26 => ⟨S_, .i32⟩
  | 27 => ⟨S160000, .i32⟩
  | 28 => ⟨S160000, .i1⟩
  | 29 => ⟨S_, .i32⟩
  | 30 => ⟨S160000, .i32⟩
  | 31 => ⟨S160000, .i32⟩
  | 32 => ⟨S160000, .i32⟩
  | 33 => ⟨S160000x1, .i32⟩
  | 34 => ⟨S160000x256, .f32⟩
  | 35 => ⟨S_, .i32⟩
  | 36 => ⟨S160000, .i32⟩
  | 37 => ⟨S160000, .i1⟩
  | 38 => ⟨S_, .i32⟩
  | 39 => ⟨S160000, .i32⟩
  | 40 => ⟨S160000, .i32⟩
  | 41 => ⟨S160000, .i32⟩
  | 42 => ⟨S160000x1, .i32⟩
  | 43 => ⟨S10000x256, .f32⟩
  | 44 => ⟨S10000x256, .f32⟩
  | 45 => ⟨S10000x256, .f32⟩
  | 46 => ⟨S10000x256, .f32⟩
  | 47 => ⟨S1x256, .f32⟩
  | 48 => ⟨S10000x256, .f32⟩
  | 49 => ⟨S10000x256, .f32⟩
  | 50 => ⟨S_, .f32⟩
  | 51 => ⟨S10000x256, .f32⟩
  | 52 => ⟨S10000x256, .f32⟩
  | 53 => ⟨S10000x256, .f32⟩
  | 54 => ⟨S10000x256, .f32⟩
  | 55 => ⟨S10000x256, .i1⟩
  | 56 => ⟨S10000x256, .f32⟩
  | 57 => ⟨S10000x256, .f32⟩
  | 58 => ⟨S10000x256, .f32⟩
  | 59 => ⟨S10000x256, .f32⟩
  | 60 => ⟨S10000x256, .f32⟩
  | 61 => ⟨S10000x256, .f32⟩
  | 62 => ⟨S10000x256, .f32⟩
  | 63 => ⟨S10000x256, .f32⟩
  | 64 => ⟨S10000x256, .f32⟩
  | 65 => ⟨S1x256, .f32⟩
  | 66 => ⟨S10000x256, .f32⟩
  | 67 => ⟨S10000x256, .f32⟩
  | 68 => ⟨S_, .f32⟩
  | 69 => ⟨S10000x256, .f32⟩
  | 70 => ⟨S10000x256, .i1⟩
  | 71 => ⟨S_, .f32⟩
  | 72 => ⟨S10000x256, .f32⟩
  | 73 => ⟨S10000x256, .f32⟩
  | 74 => ⟨S10000x256, .f32⟩
  | 75 => ⟨S10000x256, .f32⟩
  | 76 => ⟨S1x256, .f32⟩
  | 77 => ⟨S10000x256, .f32⟩
  | 78 => ⟨S10000x256, .f32⟩
  | 79 => ⟨S_, .f32⟩
  | 80 => ⟨S10000x256, .f32⟩
  | 81 => ⟨S10000x256, .i1⟩
  | 82 => ⟨S_, .f32⟩
  | 83 => ⟨S10000x256, .f32⟩
  | 84 => ⟨S10000x256, .f32⟩
  | 85 => ⟨S10000x256, .f32⟩
  | 86 => ⟨S_, .f32⟩
  | 87 => ⟨S10000x256, .f32⟩
  | 88 => ⟨S10000x256, .f32⟩
  | 89 => ⟨S10000x256, .f32⟩
  | 90 => ⟨S10000x256, .f32⟩
  | 91 => ⟨S_, .f32⟩
  | 92 => ⟨S10000x256, .f32⟩
  | 93 => ⟨S10000x256, .f32⟩
  | 94 => ⟨S10000x256, .f32⟩
  | 95 => ⟨S10000x256, .f32⟩
  | 96 => ⟨S10000x256, .f32⟩
  | 97 => ⟨S10000x256, .f32⟩
  | 98 => ⟨S_, .f32⟩
  | 99 => ⟨S_, .f32⟩
  | 100 => ⟨S_, .f32⟩
  | 101 => ⟨S_, .f32⟩
  | 102 => ⟨S10000x3, .f32⟩
  | 103 => ⟨S1x3, .f32⟩
  | 104 => ⟨S10000x3, .f32⟩
  | 105 => ⟨S10000x3, .f32⟩
  | 106 => ⟨S10000x3, .f32⟩
  | 107 => ⟨S10000x3, .f32⟩
  | 108 => ⟨S_, .f32⟩
  | 109 => ⟨S_, .f32⟩
  | 110 => ⟨S_, .f32⟩
  | 111 => ⟨S_, .f32⟩
  | _ => ⟨S10000x3, .f32⟩

abbrev hbmTy (i : Nat) : BufTy := match i / 128 with
  | 0 => hbmTy0_0 i
  | 1 => hbmTy0_1 i
  | 2 => hbmTy0_2 i
  | _ => ⟨S10000x3, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S16384x256, .bf16⟩
  | .local _ .vmem, ⟨5, _⟩ => ⟨S1000x256, .f32⟩
  | .local _ .vmem, ⟨6, _⟩ => ⟨S1000x256, .f32⟩
  | _, _ => ⟨S10000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst : Ref sig .tc := ⟨.hbm, 41, rfl⟩
abbrev main_v14 : Ref sig .tc := ⟨.hbm, 42, rfl⟩
abbrev main_c_1 : Ref sig .tc := ⟨.hbm, 43, rfl⟩
abbrev main_v15 : Ref sig .tc := ⟨.hbm, 44, rfl⟩
abbrev main_v16 : Ref sig .tc := ⟨.hbm, 45, rfl⟩
abbrev main_c_2 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_3 : Ref sig .tc := ⟨.hbm, 52, rfl⟩
abbrev main_v22 : Ref sig .tc := ⟨.hbm, 53, rfl⟩
abbrev main_v23 : Ref sig .tc := ⟨.hbm, 54, rfl⟩
abbrev main_c_4 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_5 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_6 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_7 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_8 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_9 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_10 : Ref sig .tc := ⟨.hbm, 143, rfl⟩
abbrev main_v106 : Ref sig .tc := ⟨.hbm, 144, rfl⟩
abbrev main_cst_11 : Ref sig .tc := ⟨.hbm, 145, rfl⟩
abbrev main_v107 : Ref sig .tc := ⟨.hbm, 146, rfl⟩
abbrev main_c_12 : Ref sig .tc := ⟨.hbm, 147, rfl⟩
abbrev main_v108 : Ref sig .tc := ⟨.hbm, 148, rfl⟩
abbrev main_c_13 : Ref sig .tc := ⟨.hbm, 149, rfl⟩
abbrev main_call1_v0 : Ref sig .tc := ⟨.hbm, 150, rfl⟩
abbrev main_call1_v1 : Ref sig .tc := ⟨.hbm, 151, rfl⟩
abbrev main_v109 : Ref sig .tc := ⟨.hbm, 152, rfl⟩
abbrev main_c_14 : Ref sig .tc := ⟨.hbm, 153, rfl⟩
abbrev main_v110 : Ref sig .tc := ⟨.hbm, 154, rfl⟩
abbrev main_v111 : Ref sig .tc := ⟨.hbm, 155, rfl⟩
abbrev main_c_15 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_c_16 : Ref sig .tc := ⟨.hbm, 161, rfl⟩
abbrev main_v116 : Ref sig .tc := ⟨.hbm, 162, rfl⟩
abbrev main_v117 : Ref sig .tc := ⟨.hbm, 163, rfl⟩
abbrev main_c_17 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_c_18 : Ref sig .tc := ⟨.hbm, 168, rfl⟩
abbrev main_v121 : Ref sig .tc := ⟨.hbm, 169, rfl⟩
abbrev main_c_19 : Ref sig .tc := ⟨.hbm, 170, rfl⟩
abbrev main_call2_v0 : Ref sig .tc := ⟨.hbm, 171, rfl⟩
abbrev main_call2_v1 : Ref sig .tc := ⟨.hbm, 172, rfl⟩
abbrev main_v122 : Ref sig .tc := ⟨.hbm, 173, rfl⟩
abbrev main_c_20 : Ref sig .tc := ⟨.hbm, 174, rfl⟩
abbrev main_v123 : Ref sig .tc := ⟨.hbm, 175, rfl⟩
abbrev main_v124 : Ref sig .tc := ⟨.hbm, 176, rfl⟩
abbrev main_c_21 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_c_22 : Ref sig .tc := ⟨.hbm, 182, rfl⟩
abbrev main_v129 : Ref sig .tc := ⟨.hbm, 183, rfl⟩
abbrev main_v130 : Ref sig .tc := ⟨.hbm, 184, rfl⟩
abbrev main_c_23 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_cst_24 : Ref sig .tc := ⟨.hbm, 196, rfl⟩
abbrev main_v141 : Ref sig .tc := ⟨.hbm, 197, rfl⟩
abbrev main_c_25 : Ref sig .tc := ⟨.hbm, 198, rfl⟩
abbrev main_v142 : Ref sig .tc := ⟨.hbm, 199, rfl⟩
abbrev main_v143 : Ref sig .tc := ⟨.hbm, 200, rfl⟩
abbrev main_c_26 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_c_27 : Ref sig .tc := ⟨.hbm, 207, rfl⟩
abbrev main_v149 : Ref sig .tc := ⟨.hbm, 208, rfl⟩
abbrev main_v150 : Ref sig .tc := ⟨.hbm, 209, rfl⟩
abbrev main_c_28 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_cst_29 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_cst_30 : Ref sig .tc := ⟨.hbm, 238, rfl⟩
abbrev main_v177 : Ref sig .tc := ⟨.hbm, 239, rfl⟩
abbrev main_c_31 : Ref sig .tc := ⟨.hbm, 240, rfl⟩
abbrev main_v178 : Ref sig .tc := ⟨.hbm, 241, rfl⟩
abbrev main_v179 : Ref sig .tc := ⟨.hbm, 242, rfl⟩
abbrev main_c_32 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_c_33 : Ref sig .tc := ⟨.hbm, 249, rfl⟩
abbrev main_v185 : Ref sig .tc := ⟨.hbm, 250, rfl⟩
abbrev main_v186 : Ref sig .tc := ⟨.hbm, 251, rfl⟩
abbrev main_c_34 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_cst_35 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_cst_36 : Ref sig .tc := ⟨.hbm, 280, rfl⟩
abbrev main_v213 : Ref sig .tc := ⟨.hbm, 281, rfl⟩
abbrev main_c_37 : Ref sig .tc := ⟨.hbm, 282, rfl⟩
abbrev main_v214 : Ref sig .tc := ⟨.hbm, 283, rfl⟩
abbrev main_v215 : Ref sig .tc := ⟨.hbm, 284, rfl⟩
abbrev main_c_38 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_c_39 : Ref sig .tc := ⟨.hbm, 291, rfl⟩
abbrev main_v221 : Ref sig .tc := ⟨.hbm, 292, rfl⟩
abbrev main_v222 : Ref sig .tc := ⟨.hbm, 293, rfl⟩
abbrev main_c_40 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_v230 : Ref sig .tc := ⟨.hbm, 302, rfl⟩
abbrev main_v231 : Ref sig .tc := ⟨.hbm, 303, rfl⟩
abbrev main_v232 : Ref sig .tc := ⟨.hbm, 304, rfl⟩
abbrev main_v233 : Ref sig .tc := ⟨.hbm, 305, rfl⟩
abbrev main_cst_41 : Ref sig .tc := ⟨.hbm, 306, rfl⟩
abbrev main_v234 : Ref sig .tc := ⟨.hbm, 307, rfl⟩
abbrev main_v235 : Ref sig .tc := ⟨.hbm, 308, rfl⟩
abbrev main_v236 : Ref sig .tc := ⟨.hbm, 309, rfl⟩
abbrev main_v237 : Ref sig .tc := ⟨.hbm, 310, rfl⟩
abbrev main_v238 : Ref sig .tc := ⟨.hbm, 311, rfl⟩
abbrev main_v239 : Ref sig .tc := ⟨.hbm, 312, rfl⟩
abbrev main_v240 : Ref sig .tc := ⟨.hbm, 313, rfl⟩
abbrev main_v241 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev main_v246 : Ref sig .tc := ⟨.hbm, 319, rfl⟩
abbrev main_v247 : Ref sig .tc := ⟨.hbm, 320, rfl⟩
abbrev main_v248 : Ref sig .tc := ⟨.hbm, 321, rfl⟩
abbrev main_v249 : Ref sig .tc := ⟨.hbm, 322, rfl⟩
abbrev main_v250 : Ref sig .tc := ⟨.hbm, 323, rfl⟩
abbrev main_cst_42 : Ref sig .tc := ⟨.hbm, 324, rfl⟩
abbrev main_v251 : Ref sig .tc := ⟨.hbm, 325, rfl⟩
abbrev main_v252 : Ref sig .tc := ⟨.hbm, 326, rfl⟩
abbrev main_cst_43 : Ref sig .tc := ⟨.hbm, 327, rfl⟩
abbrev main_v253 : Ref sig .tc := ⟨.hbm, 328, rfl⟩
abbrev main_v254 : Ref sig .tc := ⟨.hbm, 329, rfl⟩
abbrev main_v255 : Ref sig .tc := ⟨.hbm, 330, rfl⟩
abbrev main_v256 : Ref sig .tc := ⟨.hbm, 331, rfl⟩
abbrev main_v257 : Ref sig .tc := ⟨.hbm, 332, rfl⟩
abbrev main_v258 : Ref sig .tc := ⟨.hbm, 333, rfl⟩
abbrev main_v259 : Ref sig .tc := ⟨.hbm, 334, rfl⟩
abbrev main_cst_44 : Ref sig .tc := ⟨.hbm, 335, rfl⟩
abbrev main_v260 : Ref sig .tc := ⟨.hbm, 336, rfl⟩
abbrev main_v261 : Ref sig .tc := ⟨.hbm, 337, rfl⟩
abbrev main_cst_45 : Ref sig .tc := ⟨.hbm, 338, rfl⟩
abbrev main_v262 : Ref sig .tc := ⟨.hbm, 339, rfl⟩
abbrev main_v263 : Ref sig .tc := ⟨.hbm, 340, rfl⟩
abbrev main_v264 : Ref sig .tc := ⟨.hbm, 341, rfl⟩
abbrev main_cst_46 : Ref sig .tc := ⟨.hbm, 342, rfl⟩
abbrev main_v265 : Ref sig .tc := ⟨.hbm, 343, rfl⟩
abbrev main_v266 : Ref sig .tc := ⟨.hbm, 344, rfl⟩
abbrev main_v267 : Ref sig .tc := ⟨.hbm, 345, rfl⟩
abbrev main_v268 : Ref sig .tc := ⟨.hbm, 346, rfl⟩
abbrev main_cst_47 : Ref sig .tc := ⟨.hbm, 347, rfl⟩
abbrev main_v269 : Ref sig .tc := ⟨.hbm, 348, rfl⟩
abbrev main_v270 : Ref sig .tc := ⟨.hbm, 349, rfl⟩
abbrev main_v271 : Ref sig .tc := ⟨.hbm, 350, rfl⟩
abbrev main_v272 : Ref sig .tc := ⟨.hbm, 351, rfl⟩
abbrev main_v273 : Ref sig .tc := ⟨.hbm, 352, rfl⟩
abbrev main_v274 : Ref sig .tc := ⟨.hbm, 353, rfl⟩
abbrev main_cst_48 : Ref sig .tc := ⟨.hbm, 354, rfl⟩
abbrev main_v275 : Ref sig .tc := ⟨.hbm, 355, rfl⟩
abbrev main_cst_49 : Ref sig .tc := ⟨.hbm, 356, rfl⟩
abbrev main_v276 : Ref sig .tc := ⟨.hbm, 357, rfl⟩
abbrev main_v277 : Ref sig .tc := ⟨.hbm, 358, rfl⟩
abbrev main_v278 : Ref sig .tc := ⟨.hbm, 359, rfl⟩
abbrev main_v279 : Ref sig .tc := ⟨.hbm, 360, rfl⟩
abbrev main_v280 : Ref sig .tc := ⟨.hbm, 361, rfl⟩
abbrev main_v281 : Ref sig .tc := ⟨.hbm, 362, rfl⟩
abbrev main_v282 : Ref sig .tc := ⟨.hbm, 363, rfl⟩
abbrev main_cst_50 : Ref sig .tc := ⟨.hbm, 364, rfl⟩
abbrev main_v283 : Ref sig .tc := ⟨.hbm, 365, rfl⟩
abbrev main_cst_51 : Ref sig .tc := ⟨.hbm, 366, rfl⟩
abbrev main_v284 : Ref sig .tc := ⟨.hbm, 367, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16384x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S10000x3 : Shape := ⟨2, ![10000, 3]⟩
abbrev S2x160000 : Shape := ⟨2, ![2, 160000]⟩
abbrev S10000x128 : Shape := ⟨2, ![10000, 128]⟩
abbrev S10000 : Shape := ⟨1, ![10000]⟩
abbrev S128x128 : Shape := ⟨2, ![128, 128]⟩
abbrev S128x128x256 : Shape := ⟨3, ![128, 128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S131x256 : Shape := ⟨2, ![131, 256]⟩
abbrev S256x3 : Shape := ⟨2, ![256, 3]⟩
abbrev S3 : Shape := ⟨1, ![3]⟩
abbrev S1x160000 : Shape := ⟨2, ![1, 160000]⟩
abbrev S160000 : Shape := ⟨1, ![160000]⟩
abbrev S_ : Shape := ⟨0, ![]⟩
abbrev S10000x1 : Shape := ⟨2, ![10000, 1]⟩
abbrev S10000x128x1 : Shape := ⟨3, ![10000, 128, 1]⟩
abbrev S10000x1x128 : Shape := ⟨3, ![10000, 1, 128]⟩
abbrev S10000x128x128 : Shape := ⟨3, ![10000, 128, 128]⟩
abbrev S10000x256 : Shape := ⟨2, ![10000, 256]⟩
abbrev S160000x1 : Shape := ⟨2, ![160000, 1]⟩
abbrev S160000x256 : Shape := ⟨2, ![160000, 256]⟩
abbrev S1x256 : Shape := ⟨2, ![1, 256]⟩
abbrev S1x128 : Shape := ⟨2, ![1, 128]⟩
abbrev S10000x131 : Shape := ⟨2, ![10000, 131]⟩
abbrev S160000x131 : Shape := ⟨2, ![160000, 131]⟩
abbrev S1x3 : Shape := ⟨2, ![1, 3]⟩

abbrev nBuf : Space → Nat
  | .hbm => 371
  | .vmem => 0
  | .smem => 0
  | _ => 0

abbrev hbmTy0_0 (i : Nat) : BufTy := match i % 128 with
  | 0 => ⟨S10000x3, .f32⟩
  | 1 => ⟨S2x160000, .i32⟩
  | 2 => ⟨S10000x128, .f32⟩
  | 3 => ⟨S10000, .i32⟩
  | 4 => ⟨S128x128, .f32⟩
  | 5 => ⟨S128x128x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x128, .f32⟩
  | 12 => ⟨S128, .f32⟩
  | 13 => ⟨S131x256, .f32⟩
  | 14 => ⟨S256, .f32⟩
  | 15 => ⟨S256x256, .f32⟩
  | 16 => ⟨S256, .f32⟩
  | 17 => ⟨S256x256, .f32⟩
  | 18 => ⟨S256, .f32⟩
  | 19 => ⟨S256x256, .f32⟩
  | 20 => ⟨S256, .f32⟩
  | 21 => ⟨S256x256, .f32⟩
  | 22 => ⟨S256, .f32⟩
  | 23 => ⟨S256x3, .f32⟩
  | 24 => ⟨S3, .f32⟩
  | 25 => ⟨S1x160000, .i32⟩
  | 26 => ⟨S160000, .i32⟩
  | 27 => ⟨S1x160000, .i32⟩
  | 28 => ⟨S160000, .i32⟩
  | 29 => ⟨S_, .i32⟩
  | 30 => ⟨S10000, .i32⟩
  | 31 => ⟨S10000, .i1⟩
  | 32 => ⟨S_, .i32⟩
  | 33 => ⟨S10000, .i32⟩
  | 34 => ⟨S10000, .i32⟩
  | 35 => ⟨S10000, .i32⟩
  | 36 => ⟨S10000x1, .i32⟩
  | 37 => ⟨S10000x128, .f32⟩
  | 38 => ⟨S10000x128x1, .f32⟩
  | 39 => ⟨S10000x1x128, .f32⟩
  | 40 => ⟨S10000x128x128, .f32⟩
  | 41 => ⟨S10000x128x128, .f32⟩
  | 42 => ⟨S10000x128x128, .f32⟩
  | 43 => ⟨S10000x256, .f32⟩
  | 44 => ⟨S_, .f32⟩
  | 45 => ⟨S10000x256, .f32⟩
  | 46 => ⟨S_, .i32⟩
  | 47 => ⟨S160000, .i32⟩
  | 48 => ⟨S160000, .i1⟩
  | 49 => ⟨S_, .i32⟩
  | 50 => ⟨S160000, .i32⟩
  | 51 => ⟨S160000, .i32⟩
  | 52 => ⟨S160000, .i32⟩
  | 53 => ⟨S160000x1, .i32⟩
  | 54 => ⟨S160000x256, .f32⟩
  | 55 => ⟨S_, .i32⟩
  | 56 => ⟨S160000, .i32⟩
  | 57 => ⟨S160000, .i1⟩
  | 58 => ⟨S_, .i32⟩
  | 59 => ⟨S160000, .i32⟩
  | 60 => ⟨S160000, .i32⟩
  | 61 => ⟨S160000, .i32⟩
  | 62 => ⟨S160000x1, .i32⟩
  | 63 => ⟨S10000x256, .f32⟩
  | 64 => ⟨S10000x256, .f32⟩
  | 65 => ⟨S_, .f32⟩
  | 66 => ⟨S10000x256, .f32⟩
  | 67 => ⟨S10000x256, .f32⟩
  | 68 => ⟨S10000x256, .f32⟩
  | 69 => ⟨S10000x256, .f32⟩
  | 70 => ⟨S10000x256, .i1⟩
  | 71 => ⟨S10000x256, .f32⟩
  | 72 => ⟨S10000x256, .f32⟩
  | 73 => ⟨S10000x256, .f32⟩
  | 74 => ⟨S10000x256, .f32⟩
  | 75 => ⟨S10000x256, .f32⟩
  | 76 => ⟨S10000x256, .f32⟩
  | 77 => ⟨S10000x256, .f32⟩
  | 78 => ⟨S10000x256, .f32⟩
  | 79 => ⟨S1x256, .f32⟩
  | 80 => ⟨S10000x256, .f32⟩
  | 81 => ⟨S10000x256, .f32⟩
  | 82 => ⟨S10000x256, .f32⟩
  | 83 => ⟨S1x256, .f32⟩
  | 84 => ⟨S10000x256, .f32⟩
  | 85 => ⟨S10000x256, .f32⟩
  | 86 => ⟨S_, .f32⟩
  | 87 => ⟨S10000x256, .f32⟩
  | 88 => ⟨S10000x256, .f32⟩
  | 89 => ⟨S10000x256, .f32⟩
  | 90 => ⟨S10000x256, .f32⟩
  | 91 => ⟨S10000x256, .i1⟩
  | 92 => ⟨S10000x256, .f32⟩
  | 93 => ⟨S10000x256, .f32⟩
  | 94 => ⟨S10000x256, .f32⟩
  | 95 => ⟨S10000x256, .f32⟩
  | 96 => ⟨S10000x256, .f32⟩
  | 97 => ⟨S10000x256, .f32⟩
  | 98 => ⟨S10000x256, .f32⟩
  | 99 => ⟨S10000x256, .f32⟩
  | 100 => ⟨S10000x256, .f32⟩
  | 101 => ⟨S1x256, .f32⟩
  | 102 => ⟨S10000x256, .f32⟩
  | 103 => ⟨S10000x256, .f32⟩
  | 104 => ⟨S_, .f32⟩
  | 105 => ⟨S10000x256, .f32⟩
  | 106 => ⟨S10000x256, .f32⟩
  | 107 => ⟨S10000x256, .f32⟩
  | 108 => ⟨S10000x256, .f32⟩
  | 109 => ⟨S10000x256, .i1⟩
  | 110 => ⟨S10000x256, .f32⟩
  | 111 => ⟨S10000x256, .f32⟩
  | 112 => ⟨S10000x256, .f32⟩
  | 113 => ⟨S10000x256, .f32⟩
  | 114 => ⟨S10000x256, .f32⟩
  | 115 => ⟨S10000x256, .f32⟩
  | 116 => ⟨S10000x256, .f32⟩
  | 117 => ⟨S10000x256, .f32⟩
  | 118 => ⟨S10000x128, .f32⟩
  | 119 => ⟨S1x128, .f32⟩
  | 120 => ⟨S10000x128, .f32⟩
  | 121 => ⟨S10000x128, .f32⟩
  | 122 => ⟨S_, .f32⟩
  | 123 => ⟨S10000x128, .f32⟩
  | 124 => ⟨S10000x128, .f32⟩
  | 125 => ⟨S10000x128, .f32⟩
  | 126 => ⟨S10000x128, .f32⟩
  | 127 => ⟨S10000x128, .i1⟩
  | _ => ⟨S10000x3, .f32⟩

abbrev hbmTy0_1 (i : Nat) : BufTy := match i % 128 with
  | 0 => ⟨S10000x128, .f32⟩
  | 1 => ⟨S10000x128, .f32⟩
  | 2 => ⟨S10000x128, .f32⟩
  | 3 => ⟨S10000x128, .f32⟩
  | 4 => ⟨S10000x128, .f32⟩
  | 5 => ⟨S10000x128, .f32⟩
  | 6 => ⟨S10000x128, .f32⟩
  | 7 => ⟨S10000x128, .f32⟩
  | 8 => ⟨S_, .f32⟩
  | 9 => ⟨S10000x128, .f32⟩
  | 10 => ⟨S10000x128, .f32⟩
  | 11 => ⟨S10000x128, .f32⟩
  | 12 => ⟨S10000x128, .f32⟩
  | 13 => ⟨S10000x128, .f32⟩
  | 14 => ⟨S10000x128, .f32⟩
  | 15 => ⟨S10000x128, .f32⟩
  | 16 => ⟨S10000x128, .f32⟩
  | 17 => ⟨S10000x128, .f32⟩
  | 18 => ⟨S_, .f32⟩
  | 19 => ⟨S_, .f32⟩
  | 20 => ⟨S_, .f32⟩
  | 21 => ⟨S_, .f32⟩
  | 22 => ⟨S_, .i32⟩
  | 23 => ⟨S10000, .i32⟩
  | 24 => ⟨S_, .i32⟩
  | 25 => ⟨S_, .i32⟩
  | 26 => ⟨S160000, .i32⟩
  | 27 => ⟨S160000, .i32⟩
  | 28 => ⟨S_, .i32⟩
  | 29 => ⟨S160000, .i32⟩
  | 30 => ⟨S160000, .i1⟩
  | 31 => ⟨S_, .i32⟩
  | 32 => ⟨S160000, .i32⟩
  | 33 => ⟨S160000, .i32⟩
  | 34 => ⟨S160000, .i32⟩
  | 35 => ⟨S160000x1, .i32⟩
  | 36 => ⟨S_, .i32⟩
  | 37 => ⟨S160000, .i32⟩
  | 38 => ⟨S10000, .i32⟩
  | 39 => ⟨S_, .i32⟩
  | 40 => ⟨S10000, .i32⟩
  | 41 => ⟨S10000, .i32⟩
  | 42 => ⟨S10000, .f32⟩
  | 43 => ⟨S_, .i32⟩
  | 44 => ⟨S10000, .i32⟩
  | 45 => ⟨S_, .i32⟩
  | 46 => ⟨S_, .i32⟩
  | 47 => ⟨S160000, .i32⟩
  | 48 => ⟨S160000, .i32⟩
  | 49 => ⟨S_, .i32⟩
  | 50 => ⟨S160000, .i32⟩
  | 51 => ⟨S160000, .i1⟩
  | 52 => ⟨S_, .i32⟩
  | 53 => ⟨S160000, .i32⟩
  | 54 => ⟨S160000, .i32⟩
  | 55 => ⟨S160000, .i32⟩
  | 56 => ⟨S160000x1, .i32⟩
  | 57 => ⟨S_, .i32⟩
  | 58 => ⟨S160000, .i32⟩
  | 59 => ⟨S10000, .i32⟩
  | 60 => ⟨S_, .i32⟩
  | 61 => ⟨S10000, .i32⟩
  | 62 => ⟨S10000, .i32⟩
  | 63 => ⟨S10000, .f32⟩
  | 64 => ⟨S10000, .f32⟩
  | 65 => ⟨S10000x1, .f32⟩
  | 66 => ⟨S10000, .f32⟩
  | 67 => ⟨S10000x1, .f32⟩
  | 68 => ⟨S10000x131, .f32⟩
  | 69 => ⟨S10000x131, .f32⟩
  | 70 => ⟨S10000x131, .f32⟩
  | 71 => ⟨S_, .f32⟩
  | 72 => ⟨S10000x131, .f32⟩
  | 73 => ⟨S_, .i32⟩
  | 74 => ⟨S160000, .i32⟩
  | 75 => ⟨S160000, .i1⟩
  | 76 => ⟨S_, .i32⟩
  | 77 => ⟨S160000, .i32⟩
  | 78 => ⟨S160000, .i32⟩
  | 79 => ⟨S160000, .i32⟩
  | 80 => ⟨S160000x1, .i32⟩
  | 81 => ⟨S160000x131, .f32⟩
  | 82 => ⟨S_, .i32⟩
  | 83 => ⟨S160000, .i32⟩
  | 84 => ⟨S160000, .i1⟩
  | 85 => ⟨S_, .i32⟩
  | 86 => ⟨S160000, .i32⟩
  | 87 => ⟨S160000, .i32⟩
  | 88 => ⟨S160000, .i32⟩
  | 89 => ⟨S160000x1, .i32⟩
  | 90 => ⟨S10000x131, .f32⟩
  | 91 => ⟨S10000x131, .f32⟩
  | 92 => ⟨S10000x131, .f32⟩
  | 93 => ⟨S10000x256, .f32⟩
  | 94 => ⟨S1x256, .f32⟩
  | 95 => ⟨S10000x256, .f32⟩
  | 96 => ⟨S10000x256, .f32⟩
  | 97 => ⟨S_, .f32⟩
  | 98 => ⟨S10000x256, .f32⟩
  | 99 => ⟨S10000x256, .f32⟩
  | 100 => ⟨S10000x256, .f32⟩
  | 101 => ⟨S10000x256, .f32⟩
  | 102 => ⟨S10000x256, .i1⟩
  | 103 => ⟨S10000x256, .f32⟩
  | 104 => ⟨S10000x256, .f32⟩
  | 105 => ⟨S10000x256, .f32⟩
  | 106 => ⟨S10000x256, .f32⟩
  | 107 => ⟨S10000x256, .f32⟩
  | 108 => ⟨S10000x256, .f32⟩
  | 109 => ⟨S10000x256, .f32⟩
  | 110 => ⟨S10000x256, .f32⟩
  | 111 => ⟨S10000x256, .f32⟩
  | 112 => ⟨S10000x256, .f32⟩
  | 113 => ⟨S_, .f32⟩
  | 114 => ⟨S10000x256, .f32⟩
  | 115 => ⟨S_, .i32⟩
  | 116 => ⟨S160000, .i32⟩
  | 117 => ⟨S160000, .i1⟩
  | 118 => ⟨S_, .i32⟩
  | 119 => ⟨S160000, .i32⟩
  | 120 => ⟨S160000, .i32⟩
  | 121 => ⟨S160000, .i32⟩
  | 122 => ⟨S160000x1, .i32⟩
  | 123 => ⟨S160000x256, .f32⟩
  | 124 => ⟨S_, .i32⟩
  | 125 => ⟨S160000, .i32⟩
  | 126 => ⟨S160000, .i1⟩
  | 127 => ⟨S_, .i32⟩
  | _ => ⟨S10000x3, .f32⟩

abbrev hbmTy0_2 (i : Nat) : BufTy := match i % 128 with
  | 0 => ⟨S160000, .i32⟩
  | 1 => ⟨S160000, .i32⟩
  | 2 => ⟨S160000, .i32⟩
  | 3 => ⟨S160000x1, .i32⟩
  | 4 => ⟨S10000x256, .f32⟩
  | 5 => ⟨S10000x256, .f32⟩
  | 6 => ⟨S10000x256, .f32⟩
  | 7 => ⟨S10000x256, .f32⟩
  | 8 => ⟨S1x256, .f32⟩
  | 9 => ⟨S10000x256, .f32⟩
  | 10 => ⟨S10000x256, .f32⟩
  | 11 => ⟨S_, .f32⟩
  | 12 => ⟨S10000x256, .f32⟩
  | 13 => ⟨S10000x256, .f32⟩
  | 14 => ⟨S10000x256, .f32⟩
  | 15 => ⟨S10000x256, .f32⟩
  | 16 => ⟨S10000x256, .i1⟩
  | 17 => ⟨S10000x256, .f32⟩
  | 18 => ⟨S10000x256, .f32⟩
  | 19 => ⟨S10000x256, .f32⟩
  | 20 => ⟨S10000x256, .f32⟩
  | 21 => ⟨S10000x256, .f32⟩
  | 22 => ⟨S10000x256, .f32⟩
  | 23 => ⟨S10000x256, .f32⟩
  | 24 => ⟨S10000x256, .f32⟩
  | 25 => ⟨S10000x256, .f32⟩
  | 26 => ⟨S10000x256, .f32⟩
  | 27 => ⟨S_, .f32⟩
  | 28 => ⟨S10000x256, .f32⟩
  | 29 => ⟨S_, .i32⟩
  | 30 => ⟨S160000, .i32⟩
  | 31 => ⟨S160000, .i1⟩
  | 32 => ⟨S_, .i32⟩
  | 33 => ⟨S160000, .i32⟩
  | 34 => ⟨S160000, .i32⟩
  | 35 => ⟨S160000, .i32⟩
  | 36 => ⟨S160000x1, .i32⟩
  | 37 => ⟨S160000x256, .f32⟩
  | 38 => ⟨S_, .i32⟩
  | 39 => ⟨S160000, .i32⟩
  | 40 => ⟨S160000, .i1⟩
  | 41 => ⟨S_, .i32⟩
  | 42 => ⟨S160000, .i32⟩
  | 43 => ⟨S160000, .i32⟩
  | 44 => ⟨S160000, .i32⟩
  | 45 => ⟨S160000x1, .i32⟩
  | 46 => ⟨S10000x256, .f32⟩
  | 47 => ⟨S10000x256, .f32⟩
  | 48 => ⟨S10000x256, .f32⟩
  | 49 => ⟨S10000x256, .f32⟩
  | 50 => ⟨S1x256, .f32⟩
  | 51 => ⟨S10000x256, .f32⟩
  | 52 => ⟨S10000x256, .f32⟩
  | 53 => ⟨S_, .f32⟩
  | 54 => ⟨S10000x256, .f32⟩
  | 55 => ⟨S10000x256, .f32⟩
  | 56 => ⟨S10000x256, .f32⟩
  | 57 => ⟨S10000x256, .f32⟩
  | 58 => ⟨S10000x256, .i1⟩
  | 59 => ⟨S10000x256, .f32⟩
  | 60 => ⟨S10000x256, .f32⟩
  | 61 => ⟨S10000x256, .f32⟩
  | 62 => ⟨S10000x256, .f32⟩
  | 63 => ⟨S10000x256, .f32⟩
  | 64 => ⟨S10000x256, .f32⟩
  | 65 => ⟨S10000x256, .f32⟩
  | 66 => ⟨S10000x256, .f32⟩
  | 67 => ⟨S10000x256, .f32⟩
  | 68 => ⟨S1x256, .f32⟩
  | 69 => ⟨S10000x256, .f32⟩
  | 70 => ⟨S10000x256, .f32⟩
  | 71 => ⟨S_, .f32⟩
  | 72 => ⟨S10000x256, .f32⟩
  | 73 => ⟨S10000x256, .i1⟩
  | 74 => ⟨S_, .f32⟩
  | 75 => ⟨S10000x256, .f32⟩
  | 76 => ⟨S10000x256, .f32⟩
  | 77 => ⟨S10000x256, .f32⟩
  | 78 => ⟨S10000x256, .f32⟩
  | 79 => ⟨S1x256, .f32⟩
  | 80 => ⟨S10000x256, .f32⟩
  | 81 => ⟨S10000x256, .f32⟩
  | 82 => ⟨S_, .f32⟩
  | 83 => ⟨S10000x256, .f32⟩
  | 84 => ⟨S10000x256, .i1⟩
  | 85 => ⟨S_, .f32⟩
  | 86 => ⟨S10000x256, .f32⟩
  | 87 => ⟨S10000x256, .f32⟩
  | 88 => ⟨S10000x256, .f32⟩
  | 89 => ⟨S_, .f32⟩
  | 90 => ⟨S10000x256, .f32⟩
  | 91 => ⟨S10000x256, .f32⟩
  | 92 => ⟨S10000x256, .f32⟩
  | 93 => ⟨S10000x256, .f32⟩
  | 94 => ⟨S_, .f32⟩
  | 95 => ⟨S10000x256, .f32⟩
  | 96 => ⟨S10000x256, .f32⟩
  | 97 => ⟨S10000x256, .f32⟩
  | 98 => ⟨S10000x256, .f32⟩
  | 99 => ⟨S10000x256, .f32⟩
  | 100 => ⟨S10000x256, .f32⟩
  | 101 => ⟨S_, .f32⟩
  | 102 => ⟨S_, .f32⟩
  | 103 => ⟨S_, .f32⟩
  | 104 => ⟨S_, .f32⟩
  | 105 => ⟨S10000x3, .f32⟩
  | 106 => ⟨S1x3, .f32⟩
  | 107 => ⟨S10000x3, .f32⟩
  | 108 => ⟨S10000x3, .f32⟩
  | 109 => ⟨S10000x3, .f32⟩
  | 110 => ⟨S10000x3, .f32⟩
  | 111 => ⟨S_, .f32⟩
  | 112 => ⟨S_, .f32⟩
  | 113 => ⟨S_, .f32⟩
  | 114 => ⟨S_, .f32⟩
  | _ => ⟨S10000x3, .f32⟩

abbrev hbmTy (i : Nat) : BufTy := match i / 128 with
  | 0 => hbmTy0_0 i
  | 1 => hbmTy0_1 i
  | 2 => hbmTy0_2 i
  | _ => ⟨S10000x3, .f32⟩

abbrev bufTy : (tb : Table) → Fin (tcTables nBuf tb) → BufTy
  | .hbm, ⟨i, _⟩ => hbmTy i
  | _, _ => ⟨S10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst : Ref sig .tc := ⟨.hbm, 44, rfl⟩
abbrev main_v17 : Ref sig .tc := ⟨.hbm, 45, rfl⟩
abbrev main_c_1 : Ref sig .tc := ⟨.hbm, 46, rfl⟩
abbrev main_v18 : Ref sig .tc := ⟨.hbm, 47, rfl⟩
abbrev main_v19 : Ref sig .tc := ⟨.hbm, 48, rfl⟩
abbrev main_c_2 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c_3 : Ref sig .tc := ⟨.hbm, 55, rfl⟩
abbrev main_v25 : Ref sig .tc := ⟨.hbm, 56, rfl⟩
abbrev main_v26 : Ref sig .tc := ⟨.hbm, 57, rfl⟩
abbrev main_c_4 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_5 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_6 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_7 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_8 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_9 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_10 : Ref sig .tc := ⟨.hbm, 146, rfl⟩
abbrev main_v109 : Ref sig .tc := ⟨.hbm, 147, rfl⟩
abbrev main_cst_11 : Ref sig .tc := ⟨.hbm, 148, rfl⟩
abbrev main_v110 : Ref sig .tc := ⟨.hbm, 149, rfl⟩
abbrev main_c_12 : Ref sig .tc := ⟨.hbm, 150, rfl⟩
abbrev main_v111 : Ref sig .tc := ⟨.hbm, 151, rfl⟩
abbrev main_c_13 : Ref sig .tc := ⟨.hbm, 152, rfl⟩
abbrev main_call0_v0 : Ref sig .tc := ⟨.hbm, 153, rfl⟩
abbrev main_call0_v1 : Ref sig .tc := ⟨.hbm, 154, rfl⟩
abbrev main_v112 : Ref sig .tc := ⟨.hbm, 155, rfl⟩
abbrev main_c_14 : Ref sig .tc := ⟨.hbm, 156, rfl⟩
abbrev main_v113 : Ref sig .tc := ⟨.hbm, 157, rfl⟩
abbrev main_v114 : Ref sig .tc := ⟨.hbm, 158, rfl⟩
abbrev main_c_15 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_c_16 : Ref sig .tc := ⟨.hbm, 164, rfl⟩
abbrev main_v119 : Ref sig .tc := ⟨.hbm, 165, rfl⟩
abbrev main_v120 : Ref sig .tc := ⟨.hbm, 166, rfl⟩
abbrev main_c_17 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_c_18 : Ref sig .tc := ⟨.hbm, 171, rfl⟩
abbrev main_v124 : Ref sig .tc := ⟨.hbm, 172, rfl⟩
abbrev main_c_19 : Ref sig .tc := ⟨.hbm, 173, rfl⟩
abbrev main_call1_v0 : Ref sig .tc := ⟨.hbm, 174, rfl⟩
abbrev main_call1_v1 : Ref sig .tc := ⟨.hbm, 175, rfl⟩
abbrev main_v125 : Ref sig .tc := ⟨.hbm, 176, rfl⟩
abbrev main_c_20 : Ref sig .tc := ⟨.hbm, 177, rfl⟩
abbrev main_v126 : Ref sig .tc := ⟨.hbm, 178, rfl⟩
abbrev main_v127 : Ref sig .tc := ⟨.hbm, 179, rfl⟩
abbrev main_c_21 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_c_22 : Ref sig .tc := ⟨.hbm, 185, rfl⟩
abbrev main_v132 : Ref sig .tc := ⟨.hbm, 186, rfl⟩
abbrev main_v133 : Ref sig .tc := ⟨.hbm, 187, rfl⟩
abbrev main_c_23 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_cst_24 : Ref sig .tc := ⟨.hbm, 199, rfl⟩
abbrev main_v144 : Ref sig .tc := ⟨.hbm, 200, rfl⟩
abbrev main_c_25 : Ref sig .tc := ⟨.hbm, 201, rfl⟩
abbrev main_v145 : Ref sig .tc := ⟨.hbm, 202, rfl⟩
abbrev main_v146 : Ref sig .tc := ⟨.hbm, 203, rfl⟩
abbrev main_c_26 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_c_27 : Ref sig .tc := ⟨.hbm, 210, rfl⟩
abbrev main_v152 : Ref sig .tc := ⟨.hbm, 211, rfl⟩
abbrev main_v153 : Ref sig .tc := ⟨.hbm, 212, rfl⟩
abbrev main_c_28 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_cst_29 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_cst_30 : Ref sig .tc := ⟨.hbm, 241, rfl⟩
abbrev main_v180 : Ref sig .tc := ⟨.hbm, 242, rfl⟩
abbrev main_c_31 : Ref sig .tc := ⟨.hbm, 243, rfl⟩
abbrev main_v181 : Ref sig .tc := ⟨.hbm, 244, rfl⟩
abbrev main_v182 : Ref sig .tc := ⟨.hbm, 245, rfl⟩
abbrev main_c_32 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_c_33 : Ref sig .tc := ⟨.hbm, 252, rfl⟩
abbrev main_v188 : Ref sig .tc := ⟨.hbm, 253, rfl⟩
abbrev main_v189 : Ref sig .tc := ⟨.hbm, 254, rfl⟩
abbrev main_c_34 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_cst_35 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_cst_36 : Ref sig .tc := ⟨.hbm, 283, rfl⟩
abbrev main_v216 : Ref sig .tc := ⟨.hbm, 284, rfl⟩
abbrev main_c_37 : Ref sig .tc := ⟨.hbm, 285, rfl⟩
abbrev main_v217 : Ref sig .tc := ⟨.hbm, 286, rfl⟩
abbrev main_v218 : Ref sig .tc := ⟨.hbm, 287, rfl⟩
abbrev main_c_38 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_c_39 : Ref sig .tc := ⟨.hbm, 294, rfl⟩
abbrev main_v224 : Ref sig .tc := ⟨.hbm, 295, rfl⟩
abbrev main_v225 : Ref sig .tc := ⟨.hbm, 296, rfl⟩
abbrev main_c_40 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_v230 : Ref sig .tc := ⟨.hbm, 302, rfl⟩
abbrev main_v231 : Ref sig .tc := ⟨.hbm, 303, rfl⟩
abbrev main_v232 : Ref sig .tc := ⟨.hbm, 304, rfl⟩
abbrev main_v233 : Ref sig .tc := ⟨.hbm, 305, rfl⟩
abbrev main_v234 : Ref sig .tc := ⟨.hbm, 306, rfl⟩
abbrev main_v235 : Ref sig .tc := ⟨.hbm, 307, rfl⟩
abbrev main_v236 : Ref sig .tc := ⟨.hbm, 308, rfl⟩
abbrev main_cst_41 : Ref sig .tc := ⟨.hbm, 309, rfl⟩
abbrev main_v237 : Ref sig .tc := ⟨.hbm, 310, rfl⟩
abbrev main_v238 : Ref sig .tc := ⟨.hbm, 311, rfl⟩
abbrev main_v239 : Ref sig .tc := ⟨.hbm, 312, rfl⟩
abbrev main_v240 : Ref sig .tc := ⟨.hbm, 313, rfl⟩
abbrev main_v241 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev main_v246 : Ref sig .tc := ⟨.hbm, 319, rfl⟩
abbrev main_v247 : Ref sig .tc := ⟨.hbm, 320, rfl⟩
abbrev main_v248 : Ref sig .tc := ⟨.hbm, 321, rfl⟩
abbrev main_v249 : Ref sig .tc := ⟨.hbm, 322, rfl⟩
abbrev main_v250 : Ref sig .tc := ⟨.hbm, 323, rfl⟩
abbrev main_v251 : Ref sig .tc := ⟨.hbm, 324, rfl⟩
abbrev main_v252 : Ref sig .tc := ⟨.hbm, 325, rfl⟩
abbrev main_v253 : Ref sig .tc := ⟨.hbm, 326, rfl⟩
abbrev main_cst_42 : Ref sig .tc := ⟨.hbm, 327, rfl⟩
abbrev main_v254 : Ref sig .tc := ⟨.hbm, 328, rfl⟩
abbrev main_v255 : Ref sig .tc := ⟨.hbm, 329, rfl⟩
abbrev main_cst_43 : Ref sig .tc := ⟨.hbm, 330, rfl⟩
abbrev main_v256 : Ref sig .tc := ⟨.hbm, 331, rfl⟩
abbrev main_v257 : Ref sig .tc := ⟨.hbm, 332, rfl⟩
abbrev main_v258 : Ref sig .tc := ⟨.hbm, 333, rfl⟩
abbrev main_v259 : Ref sig .tc := ⟨.hbm, 334, rfl⟩
abbrev main_v260 : Ref sig .tc := ⟨.hbm, 335, rfl⟩
abbrev main_v261 : Ref sig .tc := ⟨.hbm, 336, rfl⟩
abbrev main_v262 : Ref sig .tc := ⟨.hbm, 337, rfl⟩
abbrev main_cst_44 : Ref sig .tc := ⟨.hbm, 338, rfl⟩
abbrev main_v263 : Ref sig .tc := ⟨.hbm, 339, rfl⟩
abbrev main_v264 : Ref sig .tc := ⟨.hbm, 340, rfl⟩
abbrev main_cst_45 : Ref sig .tc := ⟨.hbm, 341, rfl⟩
abbrev main_v265 : Ref sig .tc := ⟨.hbm, 342, rfl⟩
abbrev main_v266 : Ref sig .tc := ⟨.hbm, 343, rfl⟩
abbrev main_v267 : Ref sig .tc := ⟨.hbm, 344, rfl⟩
abbrev main_cst_46 : Ref sig .tc := ⟨.hbm, 345, rfl⟩
abbrev main_v268 : Ref sig .tc := ⟨.hbm, 346, rfl⟩
abbrev main_v269 : Ref sig .tc := ⟨.hbm, 347, rfl⟩
abbrev main_v270 : Ref sig .tc := ⟨.hbm, 348, rfl⟩
abbrev main_v271 : Ref sig .tc := ⟨.hbm, 349, rfl⟩
abbrev main_cst_47 : Ref sig .tc := ⟨.hbm, 350, rfl⟩
abbrev main_v272 : Ref sig .tc := ⟨.hbm, 351, rfl⟩
abbrev main_v273 : Ref sig .tc := ⟨.hbm, 352, rfl⟩
abbrev main_v274 : Ref sig .tc := ⟨.hbm, 353, rfl⟩
abbrev main_v275 : Ref sig .tc := ⟨.hbm, 354, rfl⟩
abbrev main_v276 : Ref sig .tc := ⟨.hbm, 355, rfl⟩
abbrev main_v277 : Ref sig .tc := ⟨.hbm, 356, rfl⟩
abbrev main_cst_48 : Ref sig .tc := ⟨.hbm, 357, rfl⟩
abbrev main_v278 : Ref sig .tc := ⟨.hbm, 358, rfl⟩
abbrev main_cst_49 : Ref sig .tc := ⟨.hbm, 359, rfl⟩
abbrev main_v279 : Ref sig .tc := ⟨.hbm, 360, rfl⟩
abbrev main_v280 : Ref sig .tc := ⟨.hbm, 361, rfl⟩
abbrev main_v281 : Ref sig .tc := ⟨.hbm, 362, rfl⟩
abbrev main_v282 : Ref sig .tc := ⟨.hbm, 363, rfl⟩
abbrev main_v283 : Ref sig .tc := ⟨.hbm, 364, rfl⟩
abbrev main_v284 : Ref sig .tc := ⟨.hbm, 365, rfl⟩
abbrev main_v285 : Ref sig .tc := ⟨.hbm, 366, rfl⟩
abbrev main_cst_50 : Ref sig .tc := ⟨.hbm, 367, rfl⟩
abbrev main_v286 : Ref sig .tc := ⟨.hbm, 368, rfl⟩
abbrev main_cst_51 : Ref sig .tc := ⟨.hbm, 369, rfl⟩
abbrev main_v287 : Ref sig .tc := ⟨.hbm, 370, rfl⟩

abbrev nD : Nat := 1
abbrev τ : Topo := Topo.v7x

variable {F : FTy → Type} [FloatOps F]
-- ==== Proof.Body.lean ====
/- What one step of the pallas_call leaves in its output block, as a double sum.

   The body goes through the 128 features of its block eight at a time: it scales the embeddings by each of the eight
   feature columns, lays the eight results side by side and multiplies by the matching 1024 rows of the weights, adding
   the product to a running sum. Here the sixteen rounds are one recursion, and the sum they reach is read at an index. -/
module

public import proofs.«01_k».proof.Proof.Gen.KernelIdeal.Frame
public import Idealize.ShloMosaic.PureOps.Ideal
public import Idealize.ShloMosaic.Lib.Pipeline.ValueKit.Geometry
public import Idealize.ShloMosaic.Lib.Pipeline.ValueKit.Tiles
public import Idealize.ShloMosaic.Lib.MatmulPlain
public import Idealize.ShloMosaic.Lib.Pointwise

@[expose] public section

set_option maxRecDepth 16384

noncomputable section

namespace Cert.KernelIdeal.Body

open Cert.KernelIdeal Cert.KernelIdeal.Gen
open Idealize.ShloMosaic hiding ix1 ix2 ix3
open Idealize.ShloMosaic.TcCoe Idealize.ShloMosaic.ValueIdx
open Idealize.SL Idealize.SL.Sem

section AnyFloat
variable {F : FTy → Type} [FloatOps F]

/-- A column of a block of 128 is one of its slices. -/
theorem slices_col (f : ℕ) (hf : f < 128) : S1000x128.Slices ![0, f] S1000x1 :=
  ⟨rfl, fun a => match a with
    | ⟨0, _⟩ => show 0 + 1000 ≤ 1000 by omega
    | ⟨1, _⟩ => show f + 1 ≤ 128 by omega⟩

/-- A group of 1024 rows of the weights lies inside them. -/
theorem inb_rows (n : ℕ) (hn : n < 16) : ∀ a, (![1024 * n, 0] : Fin 2 → Nat) a + S1024x256.size a ≤ S16384x256.size a :=
  fun a => match a with
    | ⟨0, _⟩ => show 1024 * n + 1024 ≤ 16384 by omega
    | ⟨1, _⟩ => show 0 + 256 ≤ 256 by omega

/-- The embeddings scaled by feature column `f`. -/
def scaled (x0 : Vec F S1000x128 .f32) (e : FVec F S1000x128 .bf16) (f : ℕ) (hf : f < 128) : FVec F S1000x128 .bf16 :=
  mulf (broadcastTo S1000x128 (truncf .bf16 (extractStridedSlice S1000x1 ![0, f] x0 (slices_col f hf) : FVec F S1000x1 .f32)
    bitsLt_bf16_f32 : FVec F S1000x1 .bf16) broadcasts_S1000x1_S1000x128) e

/-- Eight of them side by side: features `8 n` to `8 n + 7`. -/
def beside (x0 : Vec F S1000x128 .f32) (e : FVec F S1000x128 .bf16) (n : ℕ) (hn : n < 16) : FVec F S1000x1024 .bf16 :=
  concatenate S1000x1024 1
    [⟨S1000x128, scaled x0 e (8 * n) (by omega)⟩, ⟨S1000x128, scaled x0 e (8 * n + 1) (by omega)⟩,
     ⟨S1000x128, scaled x0 e (8 * n + 2) (by omega)⟩, ⟨S1000x128, scaled x0 e (8 * n + 3) (by omega)⟩,
     ⟨S1000x128, scaled x0 e (8 * n + 4) (by omega)⟩, ⟨S1000x128, scaled x0 e (8 * n + 5) (by omega)⟩,
     ⟨S1000x128, scaled x0 e (8 * n + 6) (by omega)⟩, ⟨S1000x128, scaled x0 e (8 * n + 7) (by omega)⟩]
    concatenates_S1000x128_S1000x128_S1000x128_S1000x128_S1000x128_S1000x128_S1000x128_S1000x128_S1000x1024_d1

/-- Round `n`'s product. -/
def round (x0 : Vec F S1000x128 .f32) (e : FVec F S1000x128 .bf16) (x2 : Vec F S16384x256 .bf16) (n : ℕ) (hn : n < 16) :
    FVec F S1000x256 .f32 :=
  matmul dot_S1000x1024_S1024x256_S1000x256_1_0_0_1_n_n none (beside x0 e n hn)
    (shapeCast S1024x256 (View.ld x2 (Rect.unit (s := S16384x256) ![1024 * n, 0] S1024x256.size (inb_rows n hn)) : Vec F S1024x256 .bf16)
      shapeCasts_S1024x256_S1024x256)
    (constant S1000x256 .f32 0x00000000#32)

/-- The running sum after `n` rounds. -/
def sumTo (x0 : Vec F S1000x128 .f32) (e : FVec F S1000x128 .bf16) (x2 : Vec F S16384x256 .bf16) :
    (n : ℕ) → n ≤ 16 → FVec F S1000x256 .f32
  | 0, _ => broadcast S1000x256 (Scalar.ofBits .f32 0x00000000#32)
  | n + 1, h => addf (sumTo x0 e x2 n (Nat.le_of_succ_le h)) (round x0 e x2 n h)

theorem zeros2 : (![0, 0] : Fin 2 → Nat) = fun _ => 0 := funext fun a => by fin_cases a <;> rfl

set_option maxHeartbeats 4000000 in
/-- The body leaves the running sum after sixteen rounds. -/
theorem out_eq_sumTo (x0 x1 : Vec F S1000x128 .f32) (x2 : Vec F S16384x256 .bf16) :
    out0_3 x0 x1 x2 = sumTo x0 (truncf .bf16 (x1 : FVec F S1000x128 .f32) bitsLt_bf16_f32) x2 16 le_rfl := by
  unfold_out out0_3
  rw [View.canon_unit_zero zeros2]
  have e0 : View.ld x0 r0_0 = x0 := View.ld_unit_zero zeros2 _ _
  have e1 : View.ld x1 r0_0 = x1 := View.ld_unit_zero zeros2 _ _
  have e3 : k0_pay2 x1 = truncf .bf16 (x1 : FVec F S1000x128 .f32) bitsLt_bf16_f32 := by
    unfold k0_pay2; rw [shapeCast_self]
  rw [e0, e1]
  rw [← e3]
  rfl

end AnyFloat

open scoped BigOperators

/-- A scaled embedding at an index: the feature times the embedding. -/
theorem scaled_apply (x0 : Vec Ideal S1000x128 .f32) (e : FVec Ideal S1000x128 .bf16) (f : ℕ) (hf : f < 128) (i : Fin 1000)
    (h : Fin 128) : (scaled x0 e f hf (ix2 i h) : EReal) = (x0 (ix2 i ⟨f, hf⟩) : EReal) * (e (ix2 i h) : EReal) := by
  show (broadcastTo S1000x128 (extractStridedSlice S1000x1 ![0, f] x0 (slices_col f hf)) broadcasts_S1000x1_S1000x128 (ix2 i h) : EReal)
    * (e (ix2 i h) : EReal) = _
  refine congrArg (fun z : EReal => z * (e (ix2 i h) : EReal)) ?_
  refine (broadcastTo_apply _ _ (ix2 i h) (ix2 (n0 := 1000) (n1 := 1) i 0) fun a => ?_).trans
    (extractStridedSlice_apply ![0, f] x0 (slices_col f hf) (ix2 (n0 := 1000) (n1 := 1) i 0) (ix2 i ⟨f, hf⟩) fun a => ?_)
  · match a with
    | ⟨0, _⟩ => rfl
    | ⟨1, _⟩ => rfl
  · match a with
    | ⟨0, _⟩ => exact (Nat.zero_add _).symm
    | ⟨1, _⟩ => rfl

/-- Eight of them side by side at an index: the feature is the column's 128 block, the embedding its place in the block. -/
theorem beside_apply (x0 : Vec Ideal S1000x128 .f32) (e : FVec Ideal S1000x128 .bf16) (n : ℕ) (hn : n < 16) (i : Fin 1000)
    (c : Fin 1024) : (beside x0 e n hn (ix2 i c) : EReal)
      = (x0 (ix2 i ⟨(1024 * n + c.val) / 128, by omega⟩) : EReal) * (e (ix2 i ⟨(1024 * n + c.val) % 128, by omega⟩) : EReal) := by
  have hc := c.isLt
  have hd : c.val / 128 < 8 := by omega
  have key := concatenate_ofFn_apply (t := S1000x1024) (s₁ := S1000x128) 1 (N := 8)
    (fun k => scaled x0 e (8 * n + k.val) (by omega))
    concatenates_S1000x128_S1000x128_S1000x128_S1000x128_S1000x128_S1000x128_S1000x128_S1000x128_S1000x1024_d1
    rfl 128 rfl (ix2 i c) ⟨c.val / 128, hd⟩ rfl (ix2 i ⟨c.val % 128, by omega⟩) rfl
    (fun b hb => match b, hb with
      | ⟨0, _⟩, _ => rfl
      | ⟨1, _⟩, hb => absurd rfl hb)
  refine (show beside x0 e n hn (ix2 i c) = _ from key).trans ((scaled_apply x0 e _ _ i _).trans ?_)
  have e1 : (⟨8 * n + c.val / 128, by omega⟩ : Fin 128) = ⟨(1024 * n + c.val) / 128, by omega⟩ := Fin.ext (by dsimp only; omega)
  have e2 : (⟨c.val % 128, by omega⟩ : Fin 128) = ⟨(1024 * n + c.val) % 128, by omega⟩ := Fin.ext (by dsimp only; omega)
  rw [← e1, ← e2]

/-- One product of the double sum, numbered through: row `c` of the weights goes with feature `c / 128` and embedding
    `c % 128`. -/
def term (x0 : Vec Ideal S1000x128 .f32) (e : FVec Ideal S1000x128 .bf16) (x2 : Vec Ideal S16384x256 .bf16) (i : Fin 1000)
    (k : Fin 256) (c : ℕ) : EReal :=
  if h : c < 16384 then
    (x0 (ix2 i ⟨c / 128, by omega⟩) : EReal) * (e (ix2 i ⟨c % 128, by omega⟩) : EReal) * (x2 (ix2 ⟨c, h⟩ k) : EReal)
  else 0

/-- Round `n`'s product at an index: the products numbered `1024 n` to `1024 n + 1023`. -/
theorem round_apply (x0 : Vec Ideal S1000x128 .f32) (e : FVec Ideal S1000x128 .bf16) (x2 : Vec Ideal S16384x256 .bf16) (n : ℕ)
    (hn : n < 16) (i : Fin 1000) (k : Fin 256) : (round x0 e x2 n hn (ix2 i k) : EReal)
      = ∑ c ∈ Finset.range 1024, term x0 e x2 i k (1024 * n + c) := by
  have h := Ideal.matmul_plain_apply (M := 1000) (K := 1024) (N := 256) (φ₁ := .bf16) (φ₂ := .bf16) none (beside x0 e n hn)
    (View.ld x2 (Rect.unit (s := S16384x256) ![1024 * n, 0] S1024x256.size (inb_rows n hn)))
    (constant S1000x256 .f32 0x00000000#32) i k
  have hs : shapeCast S1024x256 (View.ld x2 (Rect.unit (s := S16384x256) ![1024 * n, 0] S1024x256.size (inb_rows n hn)) : Vec Ideal S1024x256 .bf16)
      shapeCasts_S1024x256_S1024x256 = View.ld x2 (Rect.unit (s := S16384x256) ![1024 * n, 0] S1024x256.size (inb_rows n hn)) :=
    shapeCast_self (s := S1024x256) _ _
  unfold round
  rw [hs]
  refine (show _ = _ from h).trans ?_
  rw [show (constant (F := Ideal) S1000x256 .f32 0x00000000#32 (ix2 i k) : EReal) = 0 from Ideal.ofBits_zero_f32,
    zero_add, Finset.sum_range]
  refine Finset.sum_congr rfl fun c _ => ?_
  have hc := c.isLt
  have hl : View.ld x2 (Rect.unit (s := S16384x256) ![1024 * n, 0] S1024x256.size (inb_rows n hn)) (ix2 c k)
      = x2 (ix2 ⟨1024 * n + c.val, by omega⟩ k) :=
    congrArg x2 (funext fun a => Fin.ext ((Rect.idx_unit_val _ _ _ _ a).trans (match a with
      | ⟨0, _⟩ => rfl
      | ⟨1, _⟩ => Nat.zero_add _)))
  rw [beside_apply, hl, term, dif_pos (by omega)]

/-- The running sum at an index: the first `1024 n` products. -/
theorem sumTo_apply (x0 : Vec Ideal S1000x128 .f32) (e : FVec Ideal S1000x128 .bf16) (x2 : Vec Ideal S16384x256 .bf16)
    (i : Fin 1000) (k : Fin 256) : ∀ (n : ℕ) (hn : n ≤ 16), (sumTo x0 e x2 n hn (ix2 i k) : EReal)
      = ∑ c ∈ Finset.range (1024 * n), term x0 e x2 i k c
  | 0, _ => Ideal.ofBits_zero_f32
  | n + 1, hn => by
    rw [Nat.mul_succ, Finset.sum_range_add, ← sumTo_apply x0 e x2 i k n (Nat.le_of_succ_le hn), ← round_apply x0 e x2 n hn i k]
    rfl

/-- What the body leaves, at an index: the double sum over features and embeddings. -/
theorem out_apply (x0 x1 : Vec Ideal S1000x128 .f32) (x2 : Vec Ideal S16384x256 .bf16) (i : Fin 1000) (k : Fin 256) :
    (out0_3 x0 x1 x2 (ix2 i k) : EReal) = ∑ f : Fin 128, ∑ h : Fin 128,
      (x0 (ix2 i f) : EReal) * (x1 (ix2 i h) : EReal) * (x2 (ix2 ⟨128 * f.val + h.val, by omega⟩ k) : EReal) := by
  rw [out_eq_sumTo, sumTo_apply, show 1024 * 16 = 128 * 128 from rfl, Finset.sum_range,
    ← Equiv.sum_comp finProdFinEquiv, Fintype.sum_prod_type]
  refine Finset.sum_congr rfl fun f _ => Finset.sum_congr rfl fun h _ => ?_
  have hf := f.isLt
  have hh := h.isLt
  have ev : (finProdFinEquiv (f, h)).val = 128 * f.val + h.val := by
    simp [finProdFinEquiv]; omega
  rw [ev, term, dif_pos (by omega)]
  have e1 : (⟨(128 * f.val + h.val) / 128, by omega⟩ : Fin 128) = f := Fin.ext (by dsimp only; omega)
  have e2 : (⟨(128 * f.val + h.val) % 128, by omega⟩ : Fin 128) = h := Fin.ext (by dsimp only; omega)
  rw [e1, e2]
  rfl

end Cert.KernelIdeal.Body

end
-- ==== Proof.Region.lean ====
/- The array the pallas_call leaves: at atom `n` and output `k`, the sum over features and embeddings of feature times
   embedding times weight, read from the three arrays the call was given. Each step's block holds it for the thousand atoms
   of the block, and the ten blocks cover the array. -/
module

public import proofs.«01_k».proof.Proof.Body
public import Idealize.ShloMosaic.Lib.Pipeline.ValueKit

@[expose] public section

set_option maxRecDepth 16384

noncomputable section

namespace Cert.KernelIdeal.Region

open Cert.KernelIdeal Cert.KernelIdeal.Gen
open Idealize.ShloMosaic hiding ix1 ix2 ix3
open Idealize.ShloMosaic.TcCoe Idealize.ShloMosaic.ValueIdx
open Idealize.SL Idealize.SL.Sem
open Idealize.ShloMosaic.Pipeline (Dat)
open scoped BigOperators

/-- The double sum over features and embeddings, of three whole arrays. -/
def product (d : Vec Ideal S10000x128 .f32) (e : Vec Ideal S10000x128 .f32) (w : Vec Ideal S16384x256 .bf16) :
    Vec Ideal S10000x256 .f32 := fun j =>
  ∑ f : Fin 128, ∑ h : Fin 128,
    ((d (ix2 (n0 := 10000) (n1 := 128) (j 0) f) : EReal) * (e (ix2 (n0 := 10000) (n1 := 128) (j 0) h) : EReal)
      * (w (ix2 (n0 := 16384) (n1 := 256) ⟨128 * f.val + h.val, by omega⟩ (j 1)) : EReal) : EReal)

variable (m : (ℓ : Loc nD τ sig) → Buf (Elt Ideal) ℓ)

/-- The block of window 0 or 1 at a step, and the result's: the step's number, and zero. -/
theorem index_rows (t : Fin cfg0.N) : win0_0.index t = ![t.val, 0] ∧ win0_1.index t = ![t.val, 0] ∧ win0_3.index t = ![t.val, 0] := by
  revert t; decide +kernel

/-- The weights' block is the whole of them at every step. -/
theorem index_weights (t : Fin cfg0.N) : win0_2.index t = ![0, 0] := by
  revert t; decide +kernel

theorem final (c : Dev nD) : (dats m 0 c).arrAt 3 cfg0.N
    = product (V m c main_arg2) (V m c main_v10) (V m c main_v12) := by
  refine (dats m 0 c).arrAt_eq_of_covers 3 _ (by decide +kernel) fun t hf y => ?_
  blk_simp
  rw [after0_3]
  obtain ⟨i, k, rfl⟩ : ∃ (i : Fin 1000) (k : Fin 256), y = ix2 i k := ⟨y 0, y 1, ValueIdx.eq_ix2 _⟩
  refine (Body.out_apply _ _ _ i k).trans ?_
  refine Finset.sum_congr rfl fun f _ => Finset.sum_congr rfl fun h _ => ?_
  unfold iblk
  blk_simp
  have r0 : win0_0.index t 0 = t.val ∧ win0_0.index t 1 = 0 := by rw [(index_rows t).1]; exact ⟨rfl, rfl⟩
  have r1 : win0_1.index t 0 = t.val ∧ win0_1.index t 1 = 0 := by rw [(index_rows t).2.1]; exact ⟨rfl, rfl⟩
  have r3 : win0_3.index t 0 = t.val ∧ win0_3.index t 1 = 0 := by rw [(index_rows t).2.2]; exact ⟨rfl, rfl⟩
  have r2 : win0_2.index t 0 = 0 ∧ win0_2.index t 1 = 0 := by rw [index_weights t]; exact ⟨rfl, rfl⟩
  have e0 : (win0_0.blk t).view.emb (ix2 i f) = ix2 (n0 := 10000) (n1 := 128) ((win0_3.blk t).view.emb (ix2 i k) 0) f := by
    funext a; apply Fin.ext
    match a with
    | ⟨0, _⟩ => show _ = ((win0_3.blk t).view.emb (ix2 i k) 0).val; blk_simp; rw [r0.1, r3.1]; rfl
    | ⟨1, _⟩ => show _ = f.val; blk_simp; rw [r0.2]; simp
  have e1 : (win0_1.blk t).view.emb (ix2 i h) = ix2 (n0 := 10000) (n1 := 128) ((win0_3.blk t).view.emb (ix2 i k) 0) h := by
    funext a; apply Fin.ext
    match a with
    | ⟨0, _⟩ => show _ = ((win0_3.blk t).view.emb (ix2 i k) 0).val; blk_simp; rw [r1.1, r3.1]; rfl
    | ⟨1, _⟩ => show _ = h.val; blk_simp; rw [r1.2]; simp
  have e2 : (win0_2.blk t).view.emb (ix2 ⟨128 * f.val + h.val, by omega⟩ k)
      = ix2 (n0 := 16384) (n1 := 256) ⟨128 * f.val + h.val, by omega⟩ ((win0_3.blk t).view.emb (ix2 i k) 1) := by
    funext a; apply Fin.ext
    match a with
    | ⟨0, _⟩ => show _ = 128 * f.val + h.val; blk_simp; rw [r2.1]; simp
    | ⟨1, _⟩ => show _ = ((win0_3.blk t).view.emb (ix2 i k) 1).val; blk_simp; rw [r2.2, r3.2]; rfl
  rw [e0, e1, e2]

end Cert.KernelIdeal.Region

end
-- ==== Proof.Feature.lean ====
/- The feature product, on the two sides: what the pallas_call leaves is what the reference's contraction computes from
   the same features, embeddings and weights. -/
module

public import proofs.«01_k».proof.Proof.Region
public import proofs.«01_k».proof.Proof.Gen.ReferenceIdeal
public import Idealize.ShloMosaic.PureOps.Ideal.Laws
public import Idealize.ShloMosaic.Lib.TwoAxisContraction

@[expose] public section

set_option maxRecDepth 16384

noncomputable section

namespace Cert.Feature

open Cert.ReferenceIdeal Cert.ReferenceIdeal.Gen
open Idealize.ShloMosaic hiding ix1 ix2 ix3
open Idealize.ShloMosaic.TcCoe Idealize.ShloMosaic.ValueIdx
open scoped BigOperators

/-- The reference's product at an atom and an output: the sum over features and embeddings. -/
theorem contraction_apply (x : FVec Ideal S10000x128x128 .f32) (w : FVec Ideal S128x128x256 .f32) (n : Fin 10000) (k : Fin 256) :
    Host.dotGeneral dot_S10000x128x128_S128x128x256_S10000x256_12_01_0_2_n_n none x w (ix2 n k)
      = ∑ f : Fin 128, ∑ h : Fin 128, (x (ix3 n f h) * w (ix3 f h k) : EReal) := by
  simp only [Host.dotGeneral]
  rw [Ideal.dotGeneral_apply, sum_contr2 dot_S10000x128x128_S128x128x256_S10000x256_12_01_0_2_n_n 128 128 rfl rfl rfl]
  refine Finset.sum_congr rfl fun f _ => Finset.sum_congr rfl fun h _ => ?_
  have hl : dot_S10000x128x128_S128x128x256_S10000x256_12_01_0_2_n_n.lhsIdx (ix2 n k)
      ((contrEquiv2 dot_S10000x128x128_S128x128x256_S10000x256_12_01_0_2_n_n 128 128 rfl rfl rfl).symm (f, h)) = ix3 n f h := by
    funext a; apply Fin.ext
    match a with
    | ⟨0, _⟩ => rfl
    | ⟨1, _⟩ => exact contrEquiv2_symm_val0 dot_S10000x128x128_S128x128x256_S10000x256_12_01_0_2_n_n 128 128 rfl rfl rfl (f, h)
    | ⟨2, _⟩ => exact contrEquiv2_symm_val1 dot_S10000x128x128_S128x128x256_S10000x256_12_01_0_2_n_n 128 128 rfl rfl rfl (f, h)
  have hr : dot_S10000x128x128_S128x128x256_S10000x256_12_01_0_2_n_n.rhsIdx (ix2 n k)
      ((contrEquiv2 dot_S10000x128x128_S128x128x256_S10000x256_12_01_0_2_n_n 128 128 rfl rfl rfl).symm (f, h)) = ix3 f h k := by
    funext a; apply Fin.ext
    match a with
    | ⟨0, _⟩ => exact contrEquiv2_symm_val0 dot_S10000x128x128_S128x128x256_S10000x256_12_01_0_2_n_n 128 128 rfl rfl rfl (f, h)
    | ⟨1, _⟩ => exact contrEquiv2_symm_val1 dot_S10000x128x128_S128x128x256_S10000x256_12_01_0_2_n_n 128 128 rfl rfl rfl (f, h)
    | ⟨2, _⟩ => rfl
  rw [hl, hr]

/-- The features spread over the embeddings' axis. -/
theorem spread_features (d : Vec Ideal S10000x128 .f32) (n : Fin 10000) (f h : Fin 128) :
    broadcastInDim S10000x128x128 ![0, 1, 2] bcast_S10000x128x1_S10000x128x128_0_1_2
      (broadcastInDim S10000x128x1 ![0, 1] bcast_S10000x128_S10000x128x1_0_1 d) (ix3 n f h) = d (ix2 n f) := by
  rw [broadcastInDim_apply _ _ _ _ (ix3 n f (0 : Fin 1)) fun a => match a with | ⟨0, _⟩ => rfl | ⟨1, _⟩ => rfl | ⟨2, _⟩ => rfl,
    broadcastInDim_apply _ _ _ _ (ix2 n f) fun a => match a with | ⟨0, _⟩ => rfl | ⟨1, _⟩ => rfl]

/-- The embeddings spread over the features' axis. -/
theorem spread_embeddings (e : Vec Ideal S10000x128 .f32) (n : Fin 10000) (f h : Fin 128) :
    broadcastInDim S10000x128x128 ![0, 1, 2] bcast_S10000x1x128_S10000x128x128_0_1_2
      (broadcastInDim S10000x1x128 ![0, 2] bcast_S10000x128_S10000x1x128_0_2 e) (ix3 n f h) = e (ix2 n h) := by
  rw [broadcastInDim_apply _ _ _ _ (ix3 n (0 : Fin 1) h) fun a => match a with | ⟨0, _⟩ => rfl | ⟨1, _⟩ => rfl | ⟨2, _⟩ => rfl,
    broadcastInDim_apply _ _ _ _ (ix2 n h) fun a => match a with | ⟨0, _⟩ => rfl | ⟨1, _⟩ => rfl]

/-- The weights the pallas_call is given: flattened to rows. -/
def rows (w : FVec Ideal S128x128x256 .f32) : FVec Ideal KernelIdeal.S16384x256 .bf16 :=
  truncf .bf16 (shapeCast KernelIdeal.S16384x256 w KernelIdeal.Gen.shapeCasts_S128x128x256_S16384x256 : FVec Ideal KernelIdeal.S16384x256 .f32)
    KernelIdeal.Gen.bitsLt_bf16_f32

/-- The row of feature `f` and embedding `h` is row `128 f + h`. -/
theorem rows_apply (w : FVec Ideal S128x128x256 .f32) (f h : Fin 128) (k : Fin 256) :
    rows w (ix2 (n0 := 16384) (n1 := 256) ⟨128 * f.val + h.val, by omega⟩ k) = w (ix3 f h k) := by
  refine (shapeCast_apply w KernelIdeal.Gen.shapeCasts_S128x128x256_S16384x256 _ (ix3 f h k) ?_)
  rw [Shape.rowMajor_val_three, Shape.rowMajor_val_two]
  show (f.val * 128 + h.val) * 256 + k.val = (128 * f.val + h.val) * 256 + k.val
  omega

/-- The reference's feature product. -/
def contraction (d e : FVec Ideal S10000x128 .f32) (w : FVec Ideal S128x128x256 .f32) : FVec Ideal S10000x256 .f32 :=
  Host.dotGeneral dot_S10000x128x128_S128x128x256_S10000x256_12_01_0_2_n_n none
    (mulf (broadcastInDim S10000x128x128 ![0, 1, 2] bcast_S10000x128x1_S10000x128x128_0_1_2
        (broadcastInDim S10000x128x1 ![0, 1] bcast_S10000x128_S10000x128x1_0_1 d))
      (broadcastInDim S10000x128x128 ![0, 1, 2] bcast_S10000x1x128_S10000x128x128_0_1_2
        (broadcastInDim S10000x1x128 ![0, 2] bcast_S10000x128_S10000x1x128_0_2 e)) : FVec Ideal S10000x128x128 .f32) w

/-- The two products are the same array. -/
theorem same (d e : FVec Ideal S10000x128 .f32) (w : FVec Ideal S128x128x256 .f32) :
    KernelIdeal.Region.product d e (rows w) = contraction d e w := by
  funext j
  obtain ⟨n, k, rfl⟩ : ∃ (n : Fin 10000) (k : Fin 256), j = ix2 n k := ⟨j 0, j 1, ValueIdx.eq_ix2 _⟩
  unfold contraction
  rw [contraction_apply]
  refine Finset.sum_congr rfl fun f _ => Finset.sum_congr rfl fun h _ => ?_
  refine congrArg₂ (fun a b : EReal => a * b) ?_ (rows_apply w f h k)
  exact (congrArg₂ (fun a b : EReal => a * b) (spread_features d n f h) (spread_embeddings e n f h)).symm

end Cert.Feature

end
-- ==== Proof.Lockstep.lean ====
/- Two straight lines of host operations run side by side.

   `Agree L n n' V U`: the buffers paired by the list `L` hold the same contents in the valuations `V` (of one program)
   and `U` (of another), and every paired buffer was numbered below `n` (on the left) or `n'` (on the right). Host
   operations write buffers in increasing order of number, so a new result never disturbs a pair.

   `Lock ks rs L n n' Q m m'`: whenever `Agree L n n'` holds before, running the operations `ks` on the left and `rs` on
   the right ends with `Agree Q m m'`. One lemma per kind of operation extends `L` by the pair of the two results. -/
module

public import Idealize.ShloMosaic.Lib.StableHlo.Run

@[expose] public section

noncomputable section

namespace Cert.Lockstep

open Idealize.ShloMosaic Idealize.ShloMosaic.TcCoe Idealize.ShloMosaic.StableHlo

variable {τ τ' : Topo} {sig sig' : RefSig} {Val : EltTy → Type}

/-- The buffers paired by `L` hold the same contents, and lie below the two bounds. -/
structure Agree (L : List (Ref sig .tc × Ref sig' .tc)) (n n' : Nat) (V : Valuation τ sig Val) (U : Valuation τ' sig' Val) :
    Prop where
  /-- Paired buffers hold the same contents. -/
  val : ∀ p ∈ L, HEq (V (Proc.devRef .tc p.1)) (U (Proc.devRef .tc p.2))
  /-- Paired buffers are numbered below the bounds. -/
  lt : ∀ p ∈ L, p.1.idx.val < n ∧ p.2.idx.val < n'

/-- From agreement on `L`, the two lines of operations lead to agreement on `Q`. -/
def Lock (ks : List (HloOp τ sig Val)) (rs : List (HloOp τ' sig' Val)) (L : List (Ref sig .tc × Ref sig' .tc)) (n n' : Nat)
    (Q : List (Ref sig .tc × Ref sig' .tc)) (m m' : Nat) : Prop :=
  ∀ (V : Valuation τ sig Val) (U : Valuation τ' sig' Val), Agree L n n' V U → Agree Q m m' (after ks V) (after rs U)

variable {ks : List (HloOp τ sig Val)} {rs : List (HloOp τ' sig' Val)} {L Q : List (Ref sig .tc × Ref sig' .tc)} {n n' m m' : Nat}

/-- Nothing left to run: the pairs that are wanted are among those that agree. -/
theorem Lock.nil (hQ : Q ⊆ L) (hm : n ≤ m) (hm' : n' ≤ m') : Lock (τ := τ) (τ' := τ') (Val := Val) [] [] L n n' Q m m' := fun _ _ h =>
  ⟨fun p hp => h.val p (hQ hp), fun p hp => ⟨(h.lt p (hQ hp)).1.trans_le hm, (h.lt p (hQ hp)).2.trans_le hm'⟩⟩

/-- Lines run one after the other. -/
theorem Lock.append {ks₂ : List (HloOp τ sig Val)} {rs₂ : List (HloOp τ' sig' Val)} {M : List (Ref sig .tc × Ref sig' .tc)}
    {k k' : Nat} (h₁ : Lock ks rs L n n' M k k') (h₂ : Lock ks₂ rs₂ M k k' Q m m') :
    Lock (ks ++ ks₂) (rs ++ rs₂) L n n' Q m m' := fun V U h => by
  have e := h₂ _ _ (h₁ V U h)
  have a : ∀ {τ : Topo} {sig : RefSig} (l l₂ : List (HloOp τ sig Val)) (V : Valuation τ sig Val),
      after (l ++ l₂) V = after l₂ (after l V) := fun l l₂ => by
    induction l with
    | nil => intro V; rfl
    | cons o l ih => intro V; exact ih _
  rw [a, a]; exact e

/-- One operation on each side, whose results are new buffers with the same contents. -/
theorem Lock.cons {k : HloOp τ sig Val} {r : HloOp τ' sig' Val} {y : Ref sig .tc} {y' : Ref sig' .tc}
    (hk : k.writes = {Proc.devRef .tc y}) (hr : r.writes = {Proc.devRef .tc y'}) (hn : n ≤ y.idx.val) (hn' : n' ≤ y'.idx.val)
    (hv : ∀ V U, Agree L n n' V U → HEq (k.result V (Proc.devRef .tc y)) (r.result U (Proc.devRef .tc y')))
    (ih : Lock ks rs ((y, y') :: L) (y.idx.val + 1) (y'.idx.val + 1) Q m m') :
    Lock (k :: ks) (r :: rs) L n n' Q m m' := fun V U h => by
  refine ih _ _ ⟨fun p hp => ?_, fun p hp => ?_⟩
  · rcases List.mem_cons.mp hp with rfl | hp
    · exact hv V U h
    · have h1 : p.1 ≠ y := fun e => by have := (h.lt p hp).1; rw [e] at this; omega
      have h2 : p.2 ≠ y' := fun e => by have := (h.lt p hp).2; rw [e] at this; omega
      rw [k.result_of_not_mem V (by rw [hk, Finset.mem_singleton]; exact devRef_ne_of_ne h1),
        r.result_of_not_mem U (by rw [hr, Finset.mem_singleton]; exact devRef_ne_of_ne h2)]
      exact h.val p hp
  · rcases List.mem_cons.mp hp with rfl | hp
    · exact ⟨Nat.lt_succ_self _, Nat.lt_succ_self _⟩
    · have := h.lt p hp; omega

/-- A value of one function is the same value of the same function, whatever the types are called. -/
theorem heq_app {A A' B B' : Type} (hA : A = A') (hB : B = B') {f : A → B} {g : A' → B'} (hf : HEq f g) {a : A} {a' : A'}
    (h : HEq a a') : HEq (f a) (g a') := by
  subst hA hB; cases hf; cases h; rfl

/-- Contents types of buffers of one type are one type. -/
theorem contents_eq {T T' : BufTy} (h : T = T') : T.Contents Val = T'.Contents Val := congrArg (fun T : BufTy => T.Contents Val) h

/-- The pair of two constants. -/
theorem Lock.nullary {y : Ref sig .tc} {y' : Ref sig' .tc} {v : y.ty.Contents Val} {v' : y'.ty.Contents Val} {hy hy'}
    (hv : HEq v v') (hn : n ≤ y.idx.val) (hn' : n' ≤ y'.idx.val)
    (ih : Lock ks rs ((y, y') :: L) (y.idx.val + 1) (y'.idx.val + 1) Q m m') :
    Lock (nullary y v hy :: ks) (nullary y' v' hy' :: rs) L n n' Q m m' :=
  Lock.cons rfl rfl hn hn' (fun V U _ => by rw [nullary_result, nullary_result]; exact hv) ih

/-- The pair of the results of one function of one operand. -/
theorem Lock.unary {x y : Ref sig .tc} {x' y' : Ref sig' .tc} {f : x.ty.Contents Val → y.ty.Contents Val}
    {f' : x'.ty.Contents Val → y'.ty.Contents Val} {hx hy hx' hy'} (ex : x.ty = x'.ty) (ey : y.ty = y'.ty) (hf : HEq f f')
    (hm : (x, x') ∈ L) (hn : n ≤ y.idx.val) (hn' : n' ≤ y'.idx.val)
    (ih : Lock ks rs ((y, y') :: L) (y.idx.val + 1) (y'.idx.val + 1) Q m m') :
    Lock (unary x y f hx hy :: ks) (unary x' y' f' hx' hy' :: rs) L n n' Q m m' :=
  Lock.cons rfl rfl hn hn' (fun V U h => by
    rw [unary_result, unary_result]
    exact heq_app (contents_eq ex) (contents_eq ey) hf (h.val _ hm)) ih

/-- The pair of two reshaped operands. -/
theorem Lock.reshape {x y : Ref sig .tc} {x' y' : Ref sig' .tc} {he he' hs hs'} {hx hy hx' hy'}
    (ex : x.ty = x'.ty) (ey : y.ty = y'.ty)
    (hm : (x, x') ∈ L) (hn : n ≤ y.idx.val) (hn' : n' ≤ y'.idx.val)
    (ih : Lock ks rs ((y, y') :: L) (y.idx.val + 1) (y'.idx.val + 1) Q m m') :
    Lock (reshape x y he hs hx hy :: ks) (reshape x' y' he' hs' hx' hy' :: rs) L n n' Q m m' :=
  Lock.cons rfl rfl hn hn' (fun V U h => by
    rw [reshape_result, reshape_result]
    have aux : ∀ {X X' Y Y' : BufTy} (eX : X = X') (eY : Y = Y') (he : X.elt = Y.elt) (he' : X'.elt = Y'.elt)
        (hs : X.shape.ShapeCasts Y.shape) (hs' : X'.shape.ShapeCasts Y'.shape) (a : X.Contents Val) (a' : X'.Contents Val),
        HEq a a' → HEq (fun i => (he ▸ shapeCast Y.shape a hs i : Val Y.elt)) (fun i => (he' ▸ shapeCast Y'.shape a' hs' i : Val Y'.elt)) := by
      intro X X' Y Y' eX eY he he' hs hs' a a' h
      subst eX eY; cases h; rfl
    exact aux ex ey he he' hs hs' _ _ (h.val _ hm)) ih

/-- The pair of the results of one function of two operands. -/
theorem Lock.binary {a b y : Ref sig .tc} {a' b' y' : Ref sig' .tc} {f : a.ty.Contents Val → b.ty.Contents Val → y.ty.Contents Val}
    {f' : a'.ty.Contents Val → b'.ty.Contents Val → y'.ty.Contents Val} {ha hb hy ha' hb' hy'}
    (ea : a.ty = a'.ty) (eb : b.ty = b'.ty) (ey : y.ty = y'.ty) (hf : HEq f f')
    (hma : (a, a') ∈ L) (hmb : (b, b') ∈ L) (hn : n ≤ y.idx.val) (hn' : n' ≤ y'.idx.val)
    (ih : Lock ks rs ((y, y') :: L) (y.idx.val + 1) (y'.idx.val + 1) Q m m') :
    Lock (binary a b y f ha hb hy :: ks) (binary a' b' y' f' ha' hb' hy' :: rs) L n n' Q m m' :=
  Lock.cons rfl rfl hn hn' (fun V U h => by
    rw [binary_result, binary_result]
    exact heq_app (contents_eq eb) (contents_eq ey)
      (heq_app (contents_eq ea) (by rw [contents_eq eb, contents_eq ey]) hf (h.val _ hma)) (h.val _ hmb)) ih

/-- The pair of the results of one function of three operands. -/
theorem Lock.ternary {c a b y : Ref sig .tc} {c' a' b' y' : Ref sig' .tc}
    {f : c.ty.Contents Val → a.ty.Contents Val → b.ty.Contents Val → y.ty.Contents Val}
    {f' : c'.ty.Contents Val → a'.ty.Contents Val → b'.ty.Contents Val → y'.ty.Contents Val} {hc ha hb hy hc' ha' hb' hy'}
    (ec : c.ty = c'.ty) (ea : a.ty = a'.ty) (eb : b.ty = b'.ty) (ey : y.ty = y'.ty) (hf : HEq f f')
    (hmc : (c, c') ∈ L) (hma : (a, a') ∈ L) (hmb : (b, b') ∈ L) (hn : n ≤ y.idx.val) (hn' : n' ≤ y'.idx.val)
    (ih : Lock ks rs ((y, y') :: L) (y.idx.val + 1) (y'.idx.val + 1) Q m m') :
    Lock (ternary c a b y f hc ha hb hy :: ks) (ternary c' a' b' y' f' hc' ha' hb' hy' :: rs) L n n' Q m m' :=
  Lock.cons rfl rfl hn hn' (fun V U h => by
    rw [ternary_result, ternary_result]
    exact heq_app (contents_eq eb) (contents_eq ey)
      (heq_app (contents_eq ea) (by rw [contents_eq eb, contents_eq ey])
        (heq_app (contents_eq ec) (by rw [contents_eq ea, contents_eq eb, contents_eq ey]) hf (h.val _ hmc)) (h.val _ hma))
      (h.val _ hmb)) ih

end Cert.Lockstep

end
-- ==== Proof.Tail.lean ====
/- The host operations after the feature product: the two programs do the same ones, in the same order. -/
module

public import proofs.«01_k».proof.Proof.Lockstep
public import Idealize.ShloMosaic.PureOps.Ideal
public import proofs.«01_k».proof.Proof.Gen.KernelIdeal.Launch
public import proofs.«01_k».proof.Proof.Gen.ReferenceIdeal.Run

@[expose] public section

set_option maxRecDepth 16384
set_option maxHeartbeats 4000000

noncomputable section

namespace Cert.Tail

open Idealize.ShloMosaic Idealize.ShloMosaic.TcCoe Idealize.ShloMosaic.StableHlo Cert.Lockstep

/-- The arguments of the two programs, paired. -/
abbrev argPairs : List (Ref KernelIdeal.sig .tc × Ref ReferenceIdeal.sig .tc) :=
  [(KernelIdeal.main_arg0, ReferenceIdeal.main_arg0), (KernelIdeal.main_arg1, ReferenceIdeal.main_arg1),
   (KernelIdeal.main_arg2, ReferenceIdeal.main_arg2), (KernelIdeal.main_arg3, ReferenceIdeal.main_arg3),
   (KernelIdeal.main_arg4, ReferenceIdeal.main_arg4), (KernelIdeal.main_arg5, ReferenceIdeal.main_arg5),
   (KernelIdeal.main_arg6, ReferenceIdeal.main_arg6), (KernelIdeal.main_arg7, ReferenceIdeal.main_arg7),
   (KernelIdeal.main_arg8, ReferenceIdeal.main_arg8), (KernelIdeal.main_arg9, ReferenceIdeal.main_arg9),
   (KernelIdeal.main_arg10, ReferenceIdeal.main_arg10), (KernelIdeal.main_arg11, ReferenceIdeal.main_arg11),
   (KernelIdeal.main_arg12, ReferenceIdeal.main_arg12), (KernelIdeal.main_arg13, ReferenceIdeal.main_arg13),
   (KernelIdeal.main_arg14, ReferenceIdeal.main_arg14), (KernelIdeal.main_arg15, ReferenceIdeal.main_arg15),
   (KernelIdeal.main_arg16, ReferenceIdeal.main_arg16), (KernelIdeal.main_arg17, ReferenceIdeal.main_arg17),
   (KernelIdeal.main_arg18, ReferenceIdeal.main_arg18), (KernelIdeal.main_arg19, ReferenceIdeal.main_arg19),
   (KernelIdeal.main_arg20, ReferenceIdeal.main_arg20), (KernelIdeal.main_arg21, ReferenceIdeal.main_arg21),
   (KernelIdeal.main_arg22, ReferenceIdeal.main_arg22), (KernelIdeal.main_arg23, ReferenceIdeal.main_arg23),
   (KernelIdeal.main_arg24, ReferenceIdeal.main_arg24)]

/-- What both programs have computed before the feature product: the edges' two ends and the atoms' embeddings. -/
abbrev headPairs : List (Ref KernelIdeal.sig .tc × Ref ReferenceIdeal.sig .tc) :=
  (KernelIdeal.main_v1, ReferenceIdeal.main_v1) :: (KernelIdeal.main_v3, ReferenceIdeal.main_v3)
    :: (KernelIdeal.main_v10, ReferenceIdeal.main_v10) :: argPairs

/-- The thirteen operations before the feature product are the same ones. -/
theorem head : Lock (Val := Elt Ideal) (KernelIdeal.Gen.hostOps0.take 13) (ReferenceIdeal.Value.ops.take 13)
    argPairs 25 25 headPairs 38 38 := by
  simp only [KernelIdeal.Gen.hostOps0, ReferenceIdeal.Value.ops, ReferenceIdeal.Value.ops_part0, List.cons_append, List.take_succ_cons,
    List.take_zero]
  repeat' first
    | with_reducible apply Lock.unary
    | with_reducible apply Lock.binary
    | with_reducible apply Lock.nullary
    | with_reducible apply Lock.ternary
    | with_reducible apply Lock.reshape
    | with_reducible apply Lock.nil
    | with_reducible exact rfl
    | decide +kernel
    | exact HEq.rfl

/-- The operations after the feature product are the same ones, and end in the same three results. -/
theorem tail : Lock (Val := Elt Ideal) (List.flatten [KernelIdeal.Gen.hostOps1, KernelIdeal.Gen.hostOps1_1, KernelIdeal.Gen.hostOps1_2, KernelIdeal.Gen.hostOps1_3, KernelIdeal.Gen.hostOps1_4, KernelIdeal.Gen.hostOps1_5, KernelIdeal.Gen.hostOps1_6, KernelIdeal.Gen.hostOps1_7, KernelIdeal.Gen.hostOps1_8])
    (ReferenceIdeal.Value.ops.drop 19) ((KernelIdeal.main_v13, ReferenceIdeal.main_v16) :: headPairs) 41 44
    [(KernelIdeal.main_v107, ReferenceIdeal.main_v110), (KernelIdeal.main_v284, ReferenceIdeal.main_v287),
     (KernelIdeal.main_v276, ReferenceIdeal.main_v279)] 368 371 := by
  simp only [KernelIdeal.Gen.hostOps1, KernelIdeal.Gen.hostOps1_1, KernelIdeal.Gen.hostOps1_2, KernelIdeal.Gen.hostOps1_3, KernelIdeal.Gen.hostOps1_4, KernelIdeal.Gen.hostOps1_5, KernelIdeal.Gen.hostOps1_6, KernelIdeal.Gen.hostOps1_7, KernelIdeal.Gen.hostOps1_8, ReferenceIdeal.Value.ops_part0, ReferenceIdeal.Value.ops_part1, ReferenceIdeal.Value.ops_part2_0, ReferenceIdeal.Value.ops_part2_1, ReferenceIdeal.Value.ops_part2_2, ReferenceIdeal.Value.ops_part2, ReferenceIdeal.Value.ops_part3, ReferenceIdeal.Value.ops_part4, ReferenceIdeal.Value.ops_part5, ReferenceIdeal.Value.ops_part0_W, ReferenceIdeal.Value.ops_part1_W, ReferenceIdeal.Value.ops_part2_0_W, ReferenceIdeal.Value.ops_part2_1_W, ReferenceIdeal.Value.ops_part2_2_W, ReferenceIdeal.Value.ops_part3_W, ReferenceIdeal.Value.ops_part4_W, ReferenceIdeal.Value.ops_part5_W, ReferenceIdeal.Value.ops, List.cons_append, List.nil_append,
    List.flatten_cons, List.flatten_nil, List.append_nil, List.drop_succ_cons, List.drop_zero]
  repeat' first
    | with_reducible apply Lock.unary
    | with_reducible apply Lock.binary
    | with_reducible apply Lock.nullary
    | with_reducible apply Lock.ternary
    | with_reducible apply Lock.reshape
    | with_reducible apply Lock.nil
    | with_reducible exact rfl
    | decide +kernel
    | exact HEq.rfl

end Cert.Tail

end
-- ==== Proof.Join.lean ====
/- The two programs joined: the operations before the feature product agree, the product is the same array, and the
   operations after it agree; so from equal arguments the three losses are equal. -/
module

public import proofs.«01_k».proof.Proof.Feature
public import proofs.«01_k».proof.Proof.Tail
public import Idealize.ShloMosaic.Lib.Pipeline.FrameSuffix
public import Idealize.ShloMosaic.Lib.Claim

@[expose] public section

set_option maxRecDepth 16384

noncomputable section

namespace Cert.Lockstep

open Idealize.ShloMosaic Idealize.ShloMosaic.TcCoe Idealize.ShloMosaic.StableHlo

variable {τ τ' : Topo} {sig sig' : RefSig} {Val : EltTy → Type}
variable {L : List (Ref sig .tc × Ref sig' .tc)} {n n' : Nat} {V : Valuation τ sig Val} {U : Valuation τ' sig' Val}

/-- Operations that write only buffers numbered past the bounds disturb no pair. -/
theorem Agree.past (h : Agree L n n' V U) {ks : List (HloOp τ sig Val)} {rs : List (HloOp τ' sig' Val)}
    {W : List (Ref sig .tc)} {W' : List (Ref sig' .tc)}
    (hW : ks.map HloOp.writes = W.map fun r => {Proc.devRef (τ := τ) .tc r})
    (hW' : rs.map HloOp.writes = W'.map fun r => {Proc.devRef (τ := τ') .tc r})
    (hn : ∀ r ∈ W, n ≤ r.idx.val) (hn' : ∀ r ∈ W', n' ≤ r.idx.val) : Agree L n n' (after ks V) (after rs U) where
  val p hp := by
    rw [after_of_writes_sub ks V (forall_writes_sub_of_map hW) (fun e => absurd (h.lt p hp).1 (not_lt.mpr (hn _ e))),
      after_of_writes_sub rs U (forall_writes_sub_of_map hW') (fun e => absurd (h.lt p hp).2 (not_lt.mpr (hn' _ e)))]
    exact h.val p hp
  lt := h.lt

end Cert.Lockstep

namespace Cert.Join

open Idealize.ShloMosaic Idealize.ShloMosaic.TcCoe Idealize.ShloMosaic.StableHlo Cert.Lockstep Cert.Tail
open Idealize.SL Idealize.SL.Sem
open Cert.KernelIdeal (cfg0 cfgs spec0)
open Cert.KernelIdeal.Gen (V V0 dats)

/-- The weights as the pallas_call receives them. -/
theorem weights (X : Valuation KernelIdeal.τ KernelIdeal.sig (Elt Ideal)) :
    after (KernelIdeal.Gen.hostOps0.drop 13) X (Proc.devRef .tc KernelIdeal.main_v12)
      = Feature.rows (X (Proc.devRef .tc KernelIdeal.main_arg5)) := by
  simp only [KernelIdeal.Gen.hostOps0, List.drop_succ_cons, List.drop_zero, after_cons, after_nil]
  rw [unary_result, reshape_result]
  rfl

/-- The six operations of the reference's feature product. -/
abbrev productOps : List (HloOp ReferenceIdeal.τ ReferenceIdeal.sig (Elt Ideal)) := (ReferenceIdeal.Value.ops.take 19).drop 13

theorem contraction (X : Valuation ReferenceIdeal.τ ReferenceIdeal.sig (Elt Ideal)) :
    after productOps X (Proc.devRef .tc ReferenceIdeal.main_v16)
      = Feature.contraction (X (Proc.devRef .tc ReferenceIdeal.main_arg2)) (X (Proc.devRef .tc ReferenceIdeal.main_v10))
          (X (Proc.devRef .tc ReferenceIdeal.main_arg5)) := by
  simp only [productOps, ReferenceIdeal.Value.ops, ReferenceIdeal.Value.ops_part0, List.cons_append, List.take_succ_cons,
    List.take_zero, List.drop_succ_cons, List.drop_zero]
  after_results
  rfl

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (c : Dev KernelIdeal.nD)

/-- The buffers of the kernel's program once the pallas_call is over. -/
abbrev afterCall : Valuation KernelIdeal.τ KernelIdeal.sig (Elt Ideal) :=
  Pipeline.withArrays spec0 c (V0 m c) fun w => (dats m 0 c).arrAt w cfg0.N

/-- A buffer other than the call's result is left as it was. -/
theorem afterCall_of_ne (b : Ref KernelIdeal.sig .tc) (hb : b ≠ KernelIdeal.main_v13) :
    afterCall m c (Proc.devRef .tc b) = V0 m c (Proc.devRef .tc b) := by
  by_cases h : ∃ w, Pipeline.arrRef spec0 w = b
  · obtain ⟨w, rfl⟩ := h
    have hin : (cfg0.win w).isOut = false := by
      revert hb; revert w; decide +kernel
    exact (Pipeline.withArrays_arr spec0 (by decide +kernel) c _ _ w).trans
      (((dats m 0 c).arrAt_in w hin _).trans (KernelIdeal.Gen.A_eq m c w))
  · exact Pipeline.withArrays_of_ne spec0 c _ _ b fun w e => h ⟨w, e⟩

/-- The kernel's program after its first thirteen operations. -/
abbrev early : Valuation KernelIdeal.τ KernelIdeal.sig (Elt Ideal) := after (KernelIdeal.Gen.hostOps0.take 13) (launchContents m c)

/-- The pallas_call starts two operations later. -/
theorem entry : V0 m c = after (KernelIdeal.Gen.hostOps0.drop 13) (early m c) := by
  rw [early, ← after_append, List.take_append_drop, V0, List.flatten_cons, List.flatten_nil, List.append_nil]

/-- Those two write the flattened weights and nothing else. -/
theorem entry_of_ne (b : Ref KernelIdeal.sig .tc) (hb : b ∉ [KernelIdeal.main_v11, KernelIdeal.main_v12]) :
    V m c b = early m c (Proc.devRef .tc b) := by
  rw [V, entry]
  exact after_of_writes_sub _ _ (forall_writes_sub_of_map rfl) hb

/-- The call's result. -/
theorem afterCall_result : afterCall m c (Proc.devRef .tc KernelIdeal.main_v13)
    = Feature.contraction (early m c (Proc.devRef .tc KernelIdeal.main_arg2)) (early m c (Proc.devRef .tc KernelIdeal.main_v10))
        (early m c (Proc.devRef .tc KernelIdeal.main_arg5)) := by
  refine ((Pipeline.withArrays_arr spec0 (by decide +kernel) c _ _ 3).trans (KernelIdeal.Region.final m c)).trans ?_
  rw [entry_of_ne m c KernelIdeal.main_arg2 (by decide +kernel), entry_of_ne m c KernelIdeal.main_v10 (by decide +kernel)]
  refine Eq.trans ?_ (Feature.same _ _ _)
  refine congrArg _ ?_
  rw [V, entry]
  exact weights _

/-- The reference's program after its first thirteen operations. -/
abbrev early' : Valuation ReferenceIdeal.τ ReferenceIdeal.sig (Elt Ideal) := after (ReferenceIdeal.Value.ops.take 13) (launchContents m' c)

/-- The reference's product follows. -/
theorem past_product : after (ReferenceIdeal.Value.ops.take 19) (launchContents m' c) = after productOps (early' m' c) := by
  have h : ReferenceIdeal.Value.ops.take 13 ++ productOps = ReferenceIdeal.Value.ops.take 19 := by
    have t := List.take_append_drop 13 ((ReferenceIdeal.Value.ops (F := Ideal)).take 19)
    rwa [List.take_take] at t
  rw [early', ← after_append, h]

/-- Both programs, just after the feature product: what was computed before it is the same. -/
theorem before_product (h1 : Agree headPairs 38 38 (early m c) (early' m' c)) :
    Agree headPairs 38 38 (V0 m c) (after (ReferenceIdeal.Value.ops.take 19) (launchContents m' c)) := by
  rw [entry, past_product]
  exact h1.past (W := [KernelIdeal.main_v11, KernelIdeal.main_v12])
    (W' := [ReferenceIdeal.main_v11, ReferenceIdeal.main_v12, ReferenceIdeal.main_v13, ReferenceIdeal.main_v14,
      ReferenceIdeal.main_v15, ReferenceIdeal.main_v16]) rfl rfl (by decide +kernel) (by decide +kernel)

/-- And so is the product. -/
theorem product_eq (h1 : Agree headPairs 38 38 (early m c) (early' m' c)) :
    HEq (afterCall m c (Proc.devRef .tc KernelIdeal.main_v13))
      (after (ReferenceIdeal.Value.ops.take 19) (launchContents m' c) (Proc.devRef .tc ReferenceIdeal.main_v16)) := by
  rw [afterCall_result, past_product, contraction]
  refine heq_of_eq (congr (congr (congrArg Feature.contraction ?_) ?_) ?_)
  · exact eq_of_heq (h1.val (KernelIdeal.main_arg2, ReferenceIdeal.main_arg2) (by simp [headPairs, argPairs]))
  · exact eq_of_heq (h1.val (KernelIdeal.main_v10, ReferenceIdeal.main_v10) (by simp [headPairs, argPairs]))
  · exact eq_of_heq (h1.val (KernelIdeal.main_arg5, ReferenceIdeal.main_arg5) (by simp [headPairs, argPairs]))

/-- Both together. -/
theorem middle (h1 : Agree headPairs 38 38 (early m c) (early' m' c)) :
    Agree ((KernelIdeal.main_v13, ReferenceIdeal.main_v16) :: headPairs) 41 44 (afterCall m c)
      (after (ReferenceIdeal.Value.ops.take 19) (launchContents m' c)) where
  val p hp := by
    rcases List.mem_cons.mp hp with rfl | hp
    · exact product_eq m m' c h1
    · have hne : p.1 ≠ KernelIdeal.main_v13 := fun e => by
        have := (h1.lt p hp).1
        rw [e] at this
        exact absurd this (by decide +kernel)
      rw [afterCall_of_ne m c p.1 hne]
      exact (before_product m m' c h1).val p hp
  lt p hp := by
    rcases List.mem_cons.mp hp with rfl | hp
    · exact ⟨by decide +kernel, by decide +kernel⟩
    · have := h1.lt p hp; omega

/-- From equal arguments the two programs end with the same three results. -/
theorem results (h : Agree argPairs 25 25 (launchContents m c) (launchContents m' c)) :
    Agree [(KernelIdeal.main_v107, ReferenceIdeal.main_v110), (KernelIdeal.main_v284, ReferenceIdeal.main_v287),
     (KernelIdeal.main_v276, ReferenceIdeal.main_v279)] 368 371
      (after (List.flatten [KernelIdeal.Gen.hostOps1, KernelIdeal.Gen.hostOps1_1, KernelIdeal.Gen.hostOps1_2, KernelIdeal.Gen.hostOps1_3,
        KernelIdeal.Gen.hostOps1_4, KernelIdeal.Gen.hostOps1_5, KernelIdeal.Gen.hostOps1_6, KernelIdeal.Gen.hostOps1_7,
        KernelIdeal.Gen.hostOps1_8]) (afterCall m c))
      (after ReferenceIdeal.Value.ops (launchContents m' c)) := by
  have e : after ReferenceIdeal.Value.ops (launchContents m' c)
      = after (ReferenceIdeal.Value.ops.drop 19) (after (ReferenceIdeal.Value.ops.take 19) (launchContents m' c)) := by
    rw [← after_append, List.take_append_drop]
  rw [e]
  exact tail _ _ (middle m m' c (head _ _ h))

end Cert.Join

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Join
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.StableHlo Idealize.SL.Sem Cert.Lockstep

/-- The reference leaves its arguments as they were, and it has no semaphore. -/
theorem reference_frame : quiescent_ReferenceIdeal (hReferenceIdeal := Cert.ReferenceIdeal.Gen.facts) := fun m g _ =>
  θ_run_mono (Cert.ReferenceIdeal.Value.run m g) fun r h => ⟨fun c => (h c).2.2.2, sem_eq_zero_of_no_sems rfl r.2⟩

/-- The three losses are equal, and both programs leave their arguments as they were. -/
theorem losses_equal : algebraic_KernelIdeal_ReferenceIdeal (hKernelIdeal := Cert.KernelIdeal.Gen.facts)
    (hReferenceIdeal := Cert.ReferenceIdeal.Gen.facts) := fun m g m' g' _ hargs => by
  have start : ∀ c : Dev Cert.KernelIdeal.nD, Agree Cert.Tail.argPairs 25 25 (launchContents m c) (launchContents m' c) := fun c => by
    obtain ⟨h0, h1, h2, h3, h4, h5, h6, h7, h8, h9, h10, h11, h12, h13, h14, h15, h16, h17, h18, h19, h20, h21, h22, h23, h24⟩ := hargs c
    refine ⟨?_, fun p hp => ?_⟩
    · simp only [Cert.Tail.argPairs, List.forall_mem_cons]
      exact ⟨heq_of_eq h0.symm, heq_of_eq h1.symm, heq_of_eq h2.symm, heq_of_eq h3.symm, heq_of_eq h4.symm, heq_of_eq h5.symm, heq_of_eq h6.symm, heq_of_eq h7.symm, heq_of_eq h8.symm, heq_of_eq h9.symm, heq_of_eq h10.symm, heq_of_eq h11.symm, heq_of_eq h12.symm, heq_of_eq h13.symm, heq_of_eq h14.symm, heq_of_eq h15.symm, heq_of_eq h16.symm, heq_of_eq h17.symm, heq_of_eq h18.symm, heq_of_eq h19.symm, heq_of_eq h20.symm, heq_of_eq h21.symm, heq_of_eq h22.symm, heq_of_eq h23.symm, heq_of_eq h24.symm, fun _ h => absurd h List.not_mem_nil⟩
    · have hlt : Cert.Tail.argPairs.all (fun p => decide (p.1.idx.val < 25 ∧ p.2.idx.val < 25)) = true := by decide +kernel
      exact of_decide_eq_true (List.all_eq_true.mp hlt p hp)
  have eqs := fun c => Cert.Join.results m m' c (start c)
  refine ⟨_, _, _, θ_run_mono (θ_run_and (Cert.KernelIdeal.Gen.run_main m g) (Cert.KernelIdeal.Gen.unchanged m g)) fun r h c =>
      ⟨(h.1 c).2 Cert.KernelIdeal.main_v107 (Pipeline.mem_restRefs_of _ rfl (by decide +kernel)),
        (h.1 c).2 Cert.KernelIdeal.main_v284 (Pipeline.mem_restRefs_of _ rfl (by decide +kernel)),
        (h.1 c).2 Cert.KernelIdeal.main_v276 (Pipeline.mem_restRefs_of _ rfl (by decide +kernel)), h.2 c⟩, ?_⟩
  refine θ_run_mono (θ_run_and (Cert.ReferenceIdeal.Value.run m' g') (run_seq Cert.ReferenceIdeal.Value.scopedRefs_eq
    Cert.ReferenceIdeal.Value.scopedSems_eq Cert.ReferenceIdeal.defs Cert.ReferenceIdeal.main (fun _ => Cert.ReferenceIdeal.Value.ops)
    Cert.ReferenceIdeal.Value.main_eq (fun _ => Cert.ReferenceIdeal.Value.ops_sub) m' g' fun _ => Cert.ReferenceIdeal.Value.ops_fresh))
    fun r h c => ⟨?_, ?_, ?_, (h.1 c).2.2.2⟩
  · exact (h.2 c Cert.ReferenceIdeal.main_v110).trans (eq_of_heq ((eqs c).val (Cert.KernelIdeal.main_v107, Cert.ReferenceIdeal.main_v110) (by simp))).symm
  · exact (h.2 c Cert.ReferenceIdeal.main_v287).trans (eq_of_heq ((eqs c).val (Cert.KernelIdeal.main_v284, Cert.ReferenceIdeal.main_v287) (by simp))).symm
  · exact (h.2 c Cert.ReferenceIdeal.main_v279).trans (eq_of_heq ((eqs c).val (Cert.KernelIdeal.main_v276, Cert.ReferenceIdeal.main_v279) (by simp))).symm

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, losses_equal⟩

end Cert.Proof

end
